-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S24x512x1536 : Shape := ⟨3, ![24, 512, 1536]⟩
abbrev S1536x5120 : Shape := ⟨2, ![1536, 5120]⟩
abbrev S5120 : Shape := ⟨1, ![5120]⟩
abbrev S1536x48 : Shape := ⟨2, ![1536, 48]⟩
abbrev S48x5120 : Shape := ⟨2, ![48, 5120]⟩
abbrev S_ : Shape := ⟨0, ![]⟩

class Facts : Prop where
  bitsLt_bf16_f32 : FTy.bits .bf16 < FTy.bits .f32
  bcast_S_S24x512x1536 : S_.BroadcastsInDim S24x512x1536 (![] : Fin 0 → Fin S24x512x1536.rank)
  reducesTo_S24x512x1536_S_d0_1_2 : S24x512x1536.ReducesTo [0, 1, 2] S_
  h_S_ : 0 < S_.numel

variable [Facts]

def fn {F : FTy → Type} [FloatOps F] (main_arg0 : FVec F S24x512x1536 .bf16) (main_arg1 : FVec F S1536x5120 .fp8e4m3) (main_arg2 : FVec F S5120 .f32) (main_arg3 : FVec F S1536x48 .bf16) (main_arg4 : FVec F S48x5120 .bf16) (main_arg5 : FVec F S5120 .f32) : IVec S_ 1 :=
  let main_v0 : FVec F S24x512x1536 .f32 := (extf .f32 · bitsLt_bf16_f32) main_arg0
  let main_v1 : FVec F S24x512x1536 .f32 := Host.absf main_v0
  let main_cst : FVec F S_ .f32 := constant S_ .f32 0x7F7F0000#32
  let main_v2 : FVec F S24x512x1536 .f32 := broadcastInDim S24x512x1536 ![] bcast_S_S24x512x1536 main_cst
  let main_v3 : IVec S24x512x1536 1 := cmpf .ole main_v1 main_v2
  let main_c : IVec S_ 1 := constantI S_ 1 1#1
  let main_v4 : IVec S_ 1 := (fun x v => Host.reduce IntOp.andi x v reducesTo_S24x512x1536_S_d0_1_2 h_S_) main_v3 main_c
  main_v4
-- ==== Kernel.lean ====
abbrev S24x512x1536 : Shape := ⟨3, ![24, 512, 1536]⟩
abbrev S1536x5120 : Shape := ⟨2, ![1536, 5120]⟩
abbrev S5120 : Shape := ⟨1, ![5120]⟩
abbrev S1536x48 : Shape := ⟨2, ![1536, 48]⟩
abbrev S48x5120 : Shape := ⟨2, ![48, 5120]⟩
abbrev S1x5120 : Shape := ⟨2, ![1, 5120]⟩
abbrev S24x512x5120 : Shape := ⟨3, ![24, 512, 5120]⟩
abbrev S24x512 : Shape := ⟨2, ![24, 512]⟩
abbrev S1x512x1536 : Shape := ⟨3, ![1, 512, 1536]⟩
abbrev S1x512x5120 : Shape := ⟨3, ![1, 512, 5120]⟩
abbrev S48x1536 : Shape := ⟨2, ![48, 1536]⟩
abbrev S1x256 : Shape := ⟨2, ![1, 256]⟩
abbrev S512x48 : Shape := ⟨2, ![512, 48]⟩
abbrev S48x256 : Shape := ⟨2, ![48, 256]⟩
abbrev S512x256 : Shape := ⟨2, ![512, 256]⟩
abbrev S256 : Shape := ⟨1, ![256]⟩
abbrev S512x1536 : Shape := ⟨2, ![512, 1536]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x512 : Shape := ⟨2, ![1, 512]⟩
abbrev S48x512 : Shape := ⟨2, ![48, 512]⟩
abbrev S1536x256 : Shape := ⟨2, ![1536, 256]⟩
abbrev S1x512x256 : Shape := ⟨3, ![1, 512, 256]⟩

abbrev nBuf : Space → Nat
  | .hbm => 12
  | .vmem => 16
  | .smem => 0
  | _ => 0

abbrev bufTy : (tb : Table) → Fin (tcTables nBuf tb) → BufTy
  | .hbm, ⟨0, _⟩ => ⟨S24x512x1536, .bf16⟩
  | .hbm, ⟨1, _⟩ => ⟨S1536x5120, .fp8e4m3⟩
  | .hbm, ⟨2, _⟩ => ⟨S5120, .f32⟩
  | .hbm, ⟨3, _⟩ => ⟨S1536x48, .bf16⟩
  | .hbm, ⟨4, _⟩ => ⟨S48x5120, .bf16⟩
  | .hbm, ⟨5, _⟩ => ⟨S5120, .f32⟩
  | .hbm, ⟨6, _⟩ => ⟨S1x5120, .f32⟩
  | .hbm, ⟨7, _⟩ => ⟨S1x5120, .f32⟩
  | .hbm, ⟨8, _⟩ => ⟨S24x512x5120, .bf16⟩
  | .hbm, ⟨9, _⟩ => ⟨S1x5120, .f32⟩
  | .hbm, ⟨10, _⟩ => ⟨S24x512x1536, .fp8e4m3⟩
  | .hbm, ⟨11, _⟩ => ⟨S24x512, .f32⟩
  | .local _ .vmem, ⟨0, _⟩ => ⟨S1x512x1536, .bf16⟩
  | .local _ .vmem, ⟨1, _⟩ => ⟨S1x512x1536, .bf16⟩
  | .local _ .vmem, ⟨2, _⟩ => ⟨S1536x5120, .fp8e4m3⟩
  | .local _ .vmem, ⟨3, _⟩ => ⟨S1x5120, .f32⟩
  | .local _ .vmem, ⟨4, _⟩ => ⟨S1536x48, .bf16⟩
  | .local _ .vmem, ⟨5, _⟩ => ⟨S48x5120, .bf16⟩
  | .local _ .vmem, ⟨6, _⟩ => ⟨S1x5120, .f32⟩
  | .local _ .vmem, ⟨7, _⟩ => ⟨S1x512x5120, .bf16⟩
  | .local _ .vmem, ⟨8, _⟩ => ⟨S1x512x5120, .bf16⟩
  | .local _ .vmem, ⟨9, _⟩ => ⟨S1x5120, .f32⟩
  | .local _ .vmem, ⟨10, _⟩ => ⟨S1x512x1536, .fp8e4m3⟩
  | .local _ .vmem, ⟨11, _⟩ => ⟨S1x512x1536, .fp8e4m3⟩
  | .local _ .vmem, ⟨12, _⟩ => ⟨S24x512, .f32⟩
  | .local _ .vmem, ⟨13, _⟩ => ⟨S1x5120, .f32⟩
  | .local _ .vmem, ⟨14, _⟩ => ⟨S48x5120, .bf16⟩
  | .local _ .vmem, ⟨15, _⟩ => ⟨S48x1536, .bf16⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![24], ![false]⟩

def k0_off1 (i : grid0.Coords) : Fin 2 → Nat :=
  let arg0 : BitVec 32 := BitVec.ofNat 32 (i 0).val
  let v103 : Index := Scalar.indexCast arg0
  let c0_23 : Index := 0#32
  ![v103.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S24x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S24x512x1536 : Shape := ⟨3, ![24, 512, 1536]⟩
abbrev S1536x5120 : Shape := ⟨2, ![1536, 5120]⟩
abbrev S5120 : Shape := ⟨1, ![5120]⟩
abbrev S1536x48 : Shape := ⟨2, ![1536, 48]⟩
abbrev S48x5120 : Shape := ⟨2, ![48, 5120]⟩
abbrev S12288x1536 : Shape := ⟨2, ![12288, 1536]⟩
abbrev S1x5120 : Shape := ⟨2, ![1, 5120]⟩
abbrev S24x512x5120 : Shape := ⟨3, ![24, 512, 5120]⟩
abbrev S24x512 : Shape := ⟨2, ![24, 512]⟩
abbrev S12288 : Shape := ⟨1, ![12288]⟩
abbrev S12288x1 : Shape := ⟨2, ![12288, 1]⟩
abbrev S1x254 : Shape := ⟨2, ![1, 254]⟩
abbrev S12288x254 : Shape := ⟨2, ![12288, 254]⟩
abbrev S12288x5120 : Shape := ⟨2, ![12288, 5120]⟩
abbrev S12288x48 : Shape := ⟨2, ![12288, 48]⟩

abbrev nBuf : Space → Nat
  | .hbm => 13
  | .vmem => 10
  | .smem => 0
  | _ => 0

abbrev bufTy : (tb : Table) → Fin (tcTables nBuf tb) → BufTy
  | .hbm, ⟨0, _⟩ => ⟨S24x512x1536, .bf16⟩
  | .hbm, ⟨1, _⟩ => ⟨S1536x5120, .fp8e4m3⟩
  | .hbm, ⟨2, _⟩ => ⟨S5120, .f32⟩
  | .hbm, ⟨3, _⟩ => ⟨S1536x48, .bf16⟩
  | .hbm, ⟨4, _⟩ => ⟨S48x5120, .bf16⟩
  | .hbm, ⟨5, _⟩ => ⟨S5120, .f32⟩
  | .hbm, ⟨6, _⟩ => ⟨S12288x1536, .bf16⟩
  | .hbm, ⟨7, _⟩ => ⟨S1x5120, .f32⟩
  | .hbm, ⟨8, _⟩ => ⟨S1x5120, .f32⟩
  | .hbm, ⟨9, _⟩ => ⟨S24x512x5120, .bf16⟩
  | .hbm, ⟨10, _⟩ => ⟨S1x5120, .f32⟩
  | .hbm, ⟨11, _⟩ => ⟨S24x512x1536, .fp8e4m3⟩
  | .hbm, ⟨12, _⟩ => ⟨S24x512, .f32⟩
  | .local _ .vmem, ⟨0, _⟩ => ⟨S12288x1536, .bf16⟩
  | .local _ .vmem, ⟨1, _⟩ => ⟨S1536x5120, .fp8e4m3⟩
  | .local _ .vmem, ⟨2, _⟩ => ⟨S1x5120, .f32⟩
  | .local _ .vmem, ⟨3, _⟩ => ⟨S1536x48, .bf16⟩
  | .local _ .vmem, ⟨4, _⟩ => ⟨S48x5120, .bf16⟩
  | .local _ .vmem, ⟨5, _⟩ => ⟨S1x5120, .f32⟩
  | .local _ .vmem, ⟨6, _⟩ => ⟨S24x512x5120, .bf16⟩
  | .local _ .vmem, ⟨7, _⟩ => ⟨S1x5120, .f32⟩
  | .local _ .vmem, ⟨8, _⟩ => ⟨S24x512x1536, .fp8e4m3⟩
  | .local _ .vmem, ⟨9, _⟩ => ⟨S24x512, .f32⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x512x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x512x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/- The frame of the kernel as printed: at any values every weakly fair execution terminates with the arguments
   unchanged. The results' contents are stated nowhere here. -/
module

public import proofs.«01_k».proof.Proof.Gen.Kernel.Frame
public import proofs.«01_k».proof.Proof.Gen.Kernel.Skeleton
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1536 .bf16 := win0_0.stage (cfg0.slots t 0)
/-- A fact of the frame: `hs0_0`. -/
abbrev hs0_0 (t : Fin cfg0.N) : (ms0_0 t).IsWhole := hstage0_0 ((cfg0.slots t 0).cast nbuf0_0)
/-- A fact of the frame: `ms0_1`. -/
abbrev ms0_1 (t : Fin cfg0.N) : Memref sig .tc .vmem S1536x5120 .fp8e4m3 := win0_1.stage (cfg0.slots t 1)
/-- A fact of the frame: `hs0_1`. -/
abbrev hs0_1 (t : Fin cfg0.N) : (ms0_1 t).IsWhole := hstage0_1 ((cfg0.slots t 1).cast nbuf0_1)
/-- A fact of the frame: `ms0_2`. -/
abbrev ms0_2 (t : Fin cfg0.N) : Memref sig .tc .vmem S1x5120 .f32 := win0_2.stage (cfg0.slots t 2)
/-- A fact of the frame: `hs0_2`. -/
abbrev hs0_2 (t : Fin cfg0.N) : (ms0_2 t).IsWhole := hstage0_2 ((cfg0.slots t 2).cast nbuf0_2)
/-- A fact of the frame: `ms0_3`. -/
abbrev ms0_3 (t : Fin cfg0.N) : Memref sig .tc .vmem S1536x48 .bf16 := win0_3.stage (cfg0.slots t 3)
/-- A fact of the frame: `hs0_3`. -/
abbrev hs0_3 (t : Fin cfg0.N) : (ms0_3 t).IsWhole := hstage0_3 ((cfg0.slots t 3).cast nbuf0_3)
/-- A fact of the frame: `ms0_4`. -/
abbrev ms0_4 (t : Fin cfg0.N) : Memref sig .tc .vmem S48x5120 .bf16 := win0_4.stage (cfg0.slots t 4)
/-- A fact of the frame: `hs0_4`. -/
abbrev hs0_4 (t : Fin cfg0.N) : (ms0_4 t).IsWhole := hstage0_4 ((cfg0.slots t 4).cast nbuf0_4)
/-- A fact of the frame: `ms0_5`. -/
abbrev ms0_5 (t : Fin cfg0.N) : Memref sig .tc .vmem S1x5120 .f32 := win0_5.stage (cfg0.slots t 5)
/-- A fact of the frame: `hs0_5`. -/
abbrev hs0_5 (t : Fin cfg0.N) : (ms0_5 t).IsWhole := hstage0_5 ((cfg0.slots t 5).cast nbuf0_5)
/-- A fact of the frame: `ms0_6`. -/
abbrev ms0_6 (t : Fin cfg0.N) : Memref sig .tc .vmem S1x512x5120 .bf16 := win0_6.stage (cfg0.slots t 6)
/-- A fact of the frame: `hs0_6`. -/
abbrev hs0_6 (t : Fin cfg0.N) : (ms0_6 t).IsWhole := hstage0_6 ((cfg0.slots t 6).cast nbuf0_6)
/-- A fact of the frame: `ms0_7`. -/
abbrev ms0_7 (t : Fin cfg0.N) : Memref sig .tc .vmem S1x5120 .f32 := win0_7.stage (cfg0.slots t 7)
/-- A fact of the frame: `hs0_7`. -/
abbrev hs0_7 (t : Fin cfg0.N) : (ms0_7 t).IsWhole := hstage0_7 ((cfg0.slots t 7).cast nbuf0_7)
/-- A fact of the frame: `ms0_8`. -/
abbrev ms0_8 (t : Fin cfg0.N) : Memref sig .tc .vmem S1x512x1536 .fp8e4m3 := win0_8.stage (cfg0.slots t 8)
/-- A fact of the frame: `hs0_8`. -/
abbrev hs0_8 (t : Fin cfg0.N) : (ms0_8 t).IsWhole := hstage0_8 ((cfg0.slots t 8).cast nbuf0_8)
/-- A fact of the frame: `ms0_9`. -/
abbrev ms0_9 (t : Fin cfg0.N) : Memref sig .tc .vmem S24x512 .f32 := win0_9.stage (cfg0.slots t 9)
/-- A fact of the frame: `hs0_9`. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1x5120 .f32 := Memref.whole cc0_scratch0
/-- A fact of the frame: `scM0_1`. -/
abbrev scM0_1 : Memref sig .tc .vmem S48x5120 .bf16 := Memref.whole cc0_scratch1
/-- A fact of the frame: `scM0_2`. -/
abbrev scM0_2 : Memref sig .tc .vmem S48x1536 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

-- (the run's proof term is large: checking it walks past the default budget)
set_option maxHeartbeats 2520000 in
/-- The body's triple IN CASE A (`scf.if` 0 taken: points 0): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .vmem S1x5120 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S24x512 .f32) (harg10 : arg10.IsWhole) (arg11 : Memref sig .tc .vmem S1x5120 .f32) (harg11 : arg11.IsWhole) (arg12 : Memref sig .tc .vmem S48x5120 .bf16) (harg12 : arg12.IsWhole) (arg13 : Memref sig .tc .vmem S48x1536 .bf16) (harg13 : arg13.IsWhole) (hc0 : cond0_0 i)
    (x0 : Vec F S1x512x1536 .bf16) (x1 : Vec F S1536x5120 .fp8e4m3) (x2 : Vec F S1x5120 .f32) (x3 : Vec F S1536x48 .bf16) (x4 : Vec F S48x5120 .bf16) (x5 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_dora_linear_fp8 i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_linear_fp8_eq_skeleton]; unfold cc0_dora_linear_fp8_skel
    simp only [k0_part31_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

-- (the run's proof term is large: checking it walks past the default budget)
set_option maxHeartbeats 1000000 in
/-- The body's triple IN CASE B (`scf.if` 0 not taken: points 1, 2, … 23: 23 of 24): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .vmem S1x5120 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S24x512 .f32) (harg10 : arg10.IsWhole) (arg11 : Memref sig .tc .vmem S1x5120 .f32) (harg11 : arg11.IsWhole) (arg12 : Memref sig .tc .vmem S48x5120 .bf16) (harg12 : arg12.IsWhole) (arg13 : Memref sig .tc .vmem S48x1536 .bf16) (harg13 : arg13.IsWhole) (hc0 : ¬cond0_0 i)
    (x0 : Vec F S1x512x1536 .bf16) (x1 : Vec F S1536x5120 .fp8e4m3) (x2 : Vec F S1x5120 .f32) (x3 : Vec F S1536x48 .bf16) (x4 : Vec F S48x5120 .bf16) (x5 : Vec F S1x5120 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_dora_linear_fp8 i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_linear_fp8_eq_skeleton]; unfold cc0_dora_linear_fp8_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (6, 7, 8, 9): nothing reads what the kernel leaves in them, so nothing
    of it is named (Lib/Pipeline/Dat.lean `Dat.toRForget`). -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves operand 1 in place. -/
theorem after0_1 (c : Dev nD) (t : Fin cfg0.N) : (dats m 0 c).after 1 t = iblk m c 1 t := by dsimp only [dats]
/-- The body leaves operand 2 in place. -/
theorem after0_2 (c : Dev nD) (t : Fin cfg0.N) : (dats m 0 c).after 2 t = iblk m c 2 t := by dsimp only [dats]
/-- The body leaves operand 3 in place. -/
theorem after0_3 (c : Dev nD) (t : Fin cfg0.N) : (dats m 0 c).after 3 t = iblk m c 3 t := by dsimp only [dats]
/-- The body leaves operand 4 in place. -/
theorem after0_4 (c : Dev nD) (t : Fin cfg0.N) : (dats m 0 c).after 4 t = iblk m c 4 t := by dsimp only [dats]
/-- The body leaves operand 5 in place. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds operand 1's block. -/
theorem before0_1 (c : Dev nD) (t : Fin cfg0.N) (d) : (dats m 0 c).before 1 t d = iblk m c 1 t :=
  before0_1_of m (dats m 0 c) (A_eq m c 1) (after0_1 m c) t d
/-- The body finds operand 2's block. -/
theorem before0_2 (c : Dev nD) (t : Fin cfg0.N) (d) : (dats m 0 c).before 2 t d = iblk m c 2 t :=
  before0_2_of m (dats m 0 c) (A_eq m c 2) (after0_2 m c) t d
/-- The body finds operand 3's block. -/
theorem before0_3 (c : Dev nD) (t : Fin cfg0.N) (d) : (dats m 0 c).before 3 t d = iblk m c 3 t :=
  before0_3_of m (dats m 0 c) (A_eq m c 3) (after0_3 m c) t d
/-- The body finds operand 4's block. -/
theorem before0_4 (c : Dev nD) (t : Fin cfg0.N) (d) : (dats m 0 c).before 4 t d = iblk m c 4 t :=
  before0_4_of m (dats m 0 c) (A_eq m c 4) (after0_4 m c) t d
/-- The body finds operand 5's block. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 24 := lt_of_lt_of_eq t.isLt (show cfg0.N = 24 from N_0)
  by_cases h0 : t.val % 24 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Body.lean ====
/- The setting of the hand proof of `KernelIdeal`'s body: the one branch condition in closed form, the windows' staging
   memrefs and the scratch operands as the pipeline passes them, and the class invariant opened into the scratch buffers. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.DatRel
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x48 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S24x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1x5120 .f32 := Memref.whole cc0_scratch0
abbrev scM0_1 : Memref sig .tc .vmem S48x5120 .bf16 := Memref.whole cc0_scratch1
abbrev scM0_2 : Memref sig .tc .vmem S48x1536 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Payloads.lean ====
/- What the kernel's stores hold, element by element, over the extended reals: the functions of the whole buffers, and
   the body's payloads read at an index. -/
module

public import proofs.«01_k».proof.Proof.Body
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The values of one batch -/

/-- The scale of each row of the batch `x`. -/
def scale (x : Vec Ideal S1x512x1536 .bf16) : FVec Ideal S512x1 .f32 := k0_pay112 (k0_pay108 x) (k0_pay109 x) k0_pay110
/-- The factor each row of the batch is multiplied by before it is clipped. -/
def recip (x : Vec Ideal S1x512x1536 .bf16) : FVec Ideal S512x1 .f32 := k0_pay113 (k0_pay108 x) (k0_pay109 x) k0_pay110
/-- The codes of the batch. -/
def codes (x : Vec Ideal S1x512x1536 .bf16) : FVec Ideal S512x1536 .fp8e4m3 := k0_pay114 (k0_pay107 x) (recip x)
/-- The batch's product with the transposed down projection `d`. -/
def hid (x : Vec Ideal S1x512x1536 .bf16) (d : Vec Ideal S48x1536 .bf16) : FVec Ideal S512x48 .bf16 := k0_pay117 (k0_pay107 x) d

/-- The output block: the codes' product with the weights, scaled along both sides, the low-rank term added, and every
    column multiplied by its factor. -/
def outF (sc : FVec Ideal S512x1 .f32) (cd : FVec Ideal S512x1536 .fp8e4m3) (hh : FVec Ideal S512x48 .bf16)
    (w : Vec Ideal S1536x5120 .fp8e4m3) (up : Vec Ideal S48x5120 .bf16) (ws fac : Vec Ideal S1x5120 .f32) : Vec Ideal S1x512x5120 .bf16 :=
  fun y => ((∑ k : Fin 1536, cd (ix2 (y 1) k) * w (ix2 k (y 2))) * sc (ix2 (y 1) 0) * ws (ix2 0 (y 2))
      + ∑ k : Fin 48, hh (ix2 (y 1) k) * up (ix2 k (y 2))) * fac (ix2 0 (y 2))

/-- The merged weight at row `k`, column `n`. -/
def merged (w : Vec Ideal S1536x5120 .fp8e4m3) (ws : Vec Ideal S1x5120 .f32) (d : Vec Ideal S1536x48 .bf16) (up : Vec Ideal S48x5120 .bf16)
    (k : Fin 1536) (n : Fin 5120) : EReal :=
  w (ix2 k n) * ws (ix2 0 n) + ∑ j : Fin 48, d (ix2 k j) * up (ix2 j n)

/-- The norm of every column of the merged weight: three sums of 512 rows each, added, under the square root. -/
def normF (w : Vec Ideal S1536x5120 .fp8e4m3) (ws : Vec Ideal S1x5120 .f32) (d : Vec Ideal S1536x48 .bf16) (up : Vec Ideal S48x5120 .bf16) :
    Vec Ideal S1x5120 .f32 :=
  fun y => Ideal.sqrt
    (∑ k : Fin 512, merged w ws d up ⟨0 + k, by omega⟩ (y 1) * merged w ws d up ⟨0 + k, by omega⟩ (y 1)
      + ∑ k : Fin 512, merged w ws d up ⟨512 + k, by omega⟩ (y 1) * merged w ws d up ⟨512 + k, by omega⟩ (y 1)
      + ∑ k : Fin 512, merged w ws d up ⟨1024 + k, by omega⟩ (y 1) * merged w ws d up ⟨1024 + k, by omega⟩ (y 1))

/-- A column's factor: its magnitude over its norm, the norm replaced by one where it is zero. -/
def facE (mg cn : EReal) : EReal :=
  Ideal.div mg (Scalar.select (FloatOps.cmpf (F := Ideal) (φ := .f32) .oeq cn 0) (Ideal.ofBits .f32 0x3F800000#32) cn)

/-- The factor of every column. -/
def facF (mg cn : Vec Ideal S1x5120 .f32) : Vec Ideal S1x5120 .f32 := fun y => facE (mg y) (cn y)

/-! ## The payloads, read at an index -/

theorem ytile_apply (sc : FVec Ideal S512x1 .f32) (cd : FVec Ideal S512x1536 .fp8e4m3) (hh : FVec Ideal S512x48 .bf16)
    (w : Vec Ideal S1536x256 .fp8e4m3) (up : Vec Ideal S48x256 .bf16) (ws fac : Vec Ideal S1x256 .f32)
    (r : Fin 512) (n : Fin 256) :
    k0_pay120 (F := Ideal) sc cd hh w up ws fac (ix3 0 r n)
      = ((∑ k : Fin 1536, cd (ix2 r k) * w (ix2 k n)) * sc (ix2 r 0) * ws (ix2 0 n)
          + ∑ k : Fin 48, hh (ix2 r k) * up (ix2 k n)) * fac (ix2 0 n) := by
  pointwise [k0_pay120]

/-- The product with the transposed down projection. -/
theorem hid_apply (x : Vec Ideal S1x512x1536 .bf16) (d : Vec Ideal S48x1536 .bf16) (r : Fin 512) (j : Fin 48) :
    hid x d (ix2 r j) = ∑ k : Fin 1536, d (ix2 j k) * x (ix3 0 r k) := by
  pointwise [hid, k0_pay117, k0_pay107]

/-- The transposed down projection. -/
theorem down_apply (d : Vec Ideal S1536x48 .bf16) (j : Fin 48) (k : Fin 1536) :
    k0_pay2 (F := Ideal) d (ix2 j k) = d (ix2 k j) := by
  pointwise [k0_pay2]

/-- The halved up projection. -/
theorem up_apply (d : Vec Ideal S48x5120 .bf16) (j : Fin 48) (k : Fin 5120) :
    k0_pay3 (F := Ideal) d (ix2 j k) = d (ix2 j k) * Ideal.ofBits .bf16 0x3F00#16 := by
  pointwise [k0_pay3]

/-- The quotient whose power of two becomes the scale. -/
theorem amp_apply (x : Vec Ideal S1x512x1536 .bf16) (r : Fin 512) :
    k0_pay108 (F := Ideal) x (ix2 r 0)
      = Finset.fold max (Ideal.ofBits FTy.bf16 65408#16) (fun k => FloatOps.absf (φ := .bf16) (x (ix3 0 r k))) Finset.univ
        * Ideal.ofBits FTy.f32 991054117#32 := by
  pointwise [k0_pay108, k0_pay107]

/-- One tile of the column norms. -/
theorem cntile_apply (w0 w1 w2 : Vec Ideal S512x256 .fp8e4m3) (d0 d1 d2 : Vec Ideal S512x48 .bf16) (u0 u1 u2 : Vec Ideal S48x256 .bf16)
    (ws : Vec Ideal S1x256 .f32) (n : Fin 256) :
    k0_pay8 (F := Ideal) (k0_pay4 ws) (k0_pay5 ws d0 u0 w0) (k0_pay6 d1 u1) (k0_pay7 w1) d2 u2 w2 (ix2 0 n)
      = Ideal.sqrt
          (∑ k : Fin 512, (w0 (ix2 k n) * ws (ix2 0 n) + ∑ j : Fin 48, d0 (ix2 k j) * u0 (ix2 j n))
              * (w0 (ix2 k n) * ws (ix2 0 n) + ∑ j : Fin 48, d0 (ix2 k j) * u0 (ix2 j n))
            + ∑ k : Fin 512, (w1 (ix2 k n) * ws (ix2 0 n) + ∑ j : Fin 48, d1 (ix2 k j) * u1 (ix2 j n))
              * (w1 (ix2 k n) * ws (ix2 0 n) + ∑ j : Fin 48, d1 (ix2 k j) * u1 (ix2 j n))
            + ∑ k : Fin 512, (w2 (ix2 k n) * ws (ix2 0 n) + ∑ j : Fin 48, d2 (ix2 k j) * u2 (ix2 j n))
              * (w2 (ix2 k n) * ws (ix2 0 n) + ∑ j : Fin 48, d2 (ix2 k j) * u2 (ix2 j n))) := by
  pointwise [k0_pay4, k0_pay5, k0_pay6, k0_pay7, k0_pay8]

/-- One tile of the factors, from the magnitudes and the tile of the column norms. -/
theorem factile_apply (v481 : FVec Ideal S1x256 .f32) (v494 : FVec Ideal S1x256 .f32) (v497 : FVec Ideal S512x256 .f32) (v499 : FVec Ideal S512x256 .f32)
    (v507 : Vec Ideal S512x48 .bf16) (v508 : Vec Ideal S48x256 .bf16) (v510 : Vec Ideal S512x256 .fp8e4m3) (v521 : Vec Ideal S1x256 .f32) (n : Fin 256) :
    k0_pay9 (F := Ideal) v481 v494 v497 v499 v507 v508 v510 v521 (ix2 0 n)
      = facE (v521 (ix2 0 n)) (k0_pay8 v481 v494 v497 v499 v507 v508 v510 (ix2 0 n)) := by
  pointwise [k0_pay9, facE]

/-- The scales as they are stored. -/
theorem scale_apply (s : FVec Ideal S512x1 .f32) (r : Fin 512) : k0_pay116 (F := Ideal) s (ix2 0 r) = s (ix2 r 0) := by
  pointwise [k0_pay116]

/-- One code: the element times its row's factor, clipped. -/
theorem code_apply (x : Vec Ideal S1x512x1536 .bf16) (r : Fin 512) (k : Fin 1536) :
    codes x (ix2 r k) = min (Ideal.ofBits FTy.f32 1138753536#32) (max (Ideal.ofBits FTy.f32 3286237184#32) (x (ix3 0 r k) * recip x (ix2 r 0))) := by
  pointwise [codes, k0_pay114, k0_pay107]

/-- The codes as they are stored. -/
theorem store_apply (x : FVec Ideal S512x1536 .bf16) (s : FVec Ideal S512x1 .f32) (r : Fin 512) (k : Fin 1536) :
    k0_pay115 (F := Ideal) x s (ix3 0 r k) = k0_pay114 x s (ix2 r k) := by
  pointwise [k0_pay115]

end Cert.KernelIdeal.Hand

end
-- ==== Proof.Tiles.lean ====
/- The step from one tile's payload to the function of the whole buffer that it is a part of. -/
module

public import proofs.«01_k».proof.Proof.Payloads
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Tiles -/

/-- `w` is the tile of `X` that starts at row `r`, column `c`. -/
def Tile {α : Type} {m n M N : ℕ} (r c : ℕ) (w : (⟨2, ![m, n]⟩ : Shape).Idx → α) (X : (⟨2, ![M, N]⟩ : Shape).Idx → α) : Prop :=
  ∀ (i : Fin m) (j : Fin n) (hi : r + i.val < M) (hj : c + j.val < N), w (ix2 i j) = X (ix2 ⟨r + i.val, hi⟩ ⟨c + j.val, hj⟩)

/-- Where a tile's element lies in the whole buffer. -/
theorem emb_ix2 {m n M N r c : ℕ} (inb : ∀ a, (![r, c] : Fin 2 → ℕ) a + (![m, n] : Fin 2 → ℕ) a ≤ (⟨2, ![M, N]⟩ : Shape).size a) (i : Fin m) (j : Fin n)
    (hi : r + i.val < M) (hj : c + j.val < N) :
    (Rect.unit (s := ⟨2, ![M, N]⟩) ![r, c] ![m, n] inb).emb (ix2 i j) = ix2 ⟨r + i.val, hi⟩ ⟨c + j.val, hj⟩ := by
  funext a; apply Fin.ext
  match a with
  | ⟨0, _⟩ => show r + 1 * i.val = r + i.val; rw [Nat.one_mul]
  | ⟨1, _⟩ => show c + 1 * j.val = c + j.val; rw [Nat.one_mul]

/-- A load of a tile of a buffer that holds `X`. -/
theorem tile_load {m n M N r c : ℕ} {e : EltTy} {sp : Space} (v : Memref sig .tc sp ⟨2, ![M, N]⟩ e) (hv : v.IsWhole)
    (inb : ∀ a, (![r, c] : Fin 2 → ℕ) a + (![m, n] : Fin 2 → ℕ) a ≤ (⟨2, ![M, N]⟩ : Shape).size a) (X : Vec Ideal ⟨2, ![M, N]⟩ e) :
    Tile r c (View.readAt (Elt Ideal) v.view (Rect.unit (s := ⟨2, ![M, N]⟩) ![r, c] ![m, n] inb).toLoadRect (hv.unread X)) X := fun i j hi hj => by
  rw [View.readAt_apply, hv.read_unread]
  exact congrArg X (emb_ix2 inb i j hi hj)

/-- A load of a tile of a buffer whose stores all agree with `X`. -/
theorem tile_cov {m n M N r c : ℕ} {e : EltTy} {sp : Space} (v : View sig .tc sp ⟨2, ![M, N]⟩ e) (L : List (View.Piece (Elt Ideal) ⟨2, ![M, N]⟩ e))
    (X : Vec Ideal ⟨2, ![M, N]⟩ e) (hL : ∀ p ∈ L, ∀ x : p.1.shape.Idx, p.2 x = X (p.1.emb x)) (hc : ∀ y, ∃ p ∈ L, y ∈ p.1.set)
    (inb : ∀ a, (![r, c] : Fin 2 → ℕ) a + (![m, n] : Fin 2 → ℕ) a ≤ (⟨2, ![M, N]⟩ : Shape).size a) :
    Tile r c (v.readCov L (Rect.unit (s := ⟨2, ![M, N]⟩) ![r, c] ![m, n] inb).toLoadRect) X := fun i j hi hj =>
  (View.read_writes_apply_of_pieces v _ X L hL _ (hc _)).trans (congrArg X (emb_ix2 inb i j hi hj))

/-- A tile of the output: its payload, computed from tiles of the operands, is the output function at the tile's place. -/
theorem out_piece {off : ℕ} {sc sc' : FVec Ideal S512x1 .f32} {cd cd' : FVec Ideal S512x1536 .fp8e4m3} {hh hh' : FVec Ideal S512x48 .bf16}
    {w : Vec Ideal S1536x256 .fp8e4m3} {up : Vec Ideal S48x256 .bf16} {ws fac : Vec Ideal S1x256 .f32}
    {W : Vec Ideal S1536x5120 .fp8e4m3} {U : Vec Ideal S48x5120 .bf16} {S C : Vec Ideal S1x5120 .f32}
    (esc : sc = sc') (ecd : cd = cd') (ehh : hh = hh') (hw : Tile 0 off w W) (hu : Tile 0 off up U) (hs : Tile 0 off ws S) (hf : Tile 0 off fac C)
    {p : Vec Ideal S1x512x256 .bf16} (hp : p = k0_pay120 sc cd hh w up ws fac)
    (inb : ∀ a, (![0, 0, off] : Fin 3 → ℕ) a + S1x512x256.size a ≤ S1x512x5120.size a) (x : S1x512x256.Idx) :
    p x = outF sc' cd' hh' W U S C ((Rect.unit (s := S1x512x5120) ![0, 0, off] S1x512x256.size inb).emb x) := by
  subst esc ecd ehh hp
  obtain ⟨r, n, rfl⟩ : ∃ (r : Fin 512) (n : Fin 256), x = ix3 0 r n := ⟨x 1, x 2, by
    funext a; match a with | ⟨0, _⟩ => exact Fin.eq_zero _ | ⟨1, _⟩ => rfl | ⟨2, _⟩ => rfl⟩
  have hb : off + 256 ≤ 5120 := inb 2
  have hn : off + n.val < 5120 := by omega
  have e1 : ((Rect.unit (s := S1x512x5120) ![0, 0, off] S1x512x256.size inb).emb (ix3 0 r n)) 1 = r :=
    Fin.ext (by show 0 + 1 * r.val = r.val; omega)
  have e2 : ((Rect.unit (s := S1x512x5120) ![0, 0, off] S1x512x256.size inb).emb (ix3 0 r n)) 2 = ⟨off + n.val, hn⟩ :=
    Fin.ext (by show off + 1 * n.val = off + n.val; omega)
  rw [ytile_apply]
  unfold outF
  rw [e1, e2]
  have z : ∀ {M : ℕ} (k : Fin M) (h : 0 + k.val < M), (⟨0 + k.val, h⟩ : Fin M) = k := fun k h => Fin.ext (Nat.zero_add _)
  have a1 : ∀ k : Fin 1536, w (ix2 k n) = W (ix2 k ⟨off + n.val, hn⟩) := fun k => by
    rw [hw k n (by omega) hn, z]
  have a2 : ∀ k : Fin 48, up (ix2 k n) = U (ix2 k ⟨off + n.val, hn⟩) := fun k => by
    rw [hu k n (by omega) hn, z]
  have a3 : ws (ix2 0 n) = S (ix2 0 ⟨off + n.val, hn⟩) := by
    rw [hs 0 n (by decide) hn]; rfl
  have a4 : fac (ix2 0 n) = C (ix2 0 ⟨off + n.val, hn⟩) := by
    rw [hf 0 n (by decide) hn]; rfl
  simp only [a1, a2, a3, a4]
  rfl

/-- A tile of the column norms. -/
theorem norm_tile {off : ℕ} {w0 w1 w2 : Vec Ideal S512x256 .fp8e4m3} {d0 d1 d2 : Vec Ideal S512x48 .bf16} {u0 u1 u2 : Vec Ideal S48x256 .bf16}
    {ws : Vec Ideal S1x256 .f32} {W : Vec Ideal S1536x5120 .fp8e4m3} {S : Vec Ideal S1x5120 .f32} {D : Vec Ideal S1536x48 .bf16} {U : Vec Ideal S48x5120 .bf16}
    (hw0 : Tile 0 off w0 W) (hw1 : Tile 512 off w1 W) (hw2 : Tile 1024 off w2 W)
    (hd0 : Tile 0 0 d0 D) (hd1 : Tile 512 0 d1 D) (hd2 : Tile 1024 0 d2 D)
    (hu0 : Tile 0 off u0 U) (hu1 : Tile 0 off u1 U) (hu2 : Tile 0 off u2 U) (hs : Tile 0 off ws S) (n : Fin 256) (hn : off + n.val < 5120) :
    k0_pay8 (F := Ideal) (k0_pay4 ws) (k0_pay5 ws d0 u0 w0) (k0_pay6 d1 u1) (k0_pay7 w1) d2 u2 w2 (ix2 0 n)
      = normF W S D U (ix2 0 ⟨off + n.val, hn⟩) := by
  rw [cntile_apply]
  unfold normF merged
  have z : ∀ {M : ℕ} (k : Fin M) (h : 0 + k.val < M), (⟨0 + k.val, h⟩ : Fin M) = k := fun k h => Fin.ext (Nat.zero_add _)
  have b0 : ∀ k : Fin 512, w0 (ix2 k n) = W (ix2 ⟨0 + k.val, by omega⟩ ⟨off + n.val, hn⟩) := fun k => hw0 k n _ hn
  have b1 : ∀ k : Fin 512, w1 (ix2 k n) = W (ix2 ⟨512 + k.val, by omega⟩ ⟨off + n.val, hn⟩) := fun k => hw1 k n _ hn
  have b2 : ∀ k : Fin 512, w2 (ix2 k n) = W (ix2 ⟨1024 + k.val, by omega⟩ ⟨off + n.val, hn⟩) := fun k => hw2 k n _ hn
  have c0 : ∀ (k : Fin 512) (j : Fin 48), d0 (ix2 k j) = D (ix2 ⟨0 + k.val, by omega⟩ j) := fun k j => by
    rw [hd0 k j (by omega) (by omega), z]
  have c1 : ∀ (k : Fin 512) (j : Fin 48), d1 (ix2 k j) = D (ix2 ⟨512 + k.val, by omega⟩ j) := fun k j => by
    rw [hd1 k j (by omega) (by omega), z j]
  have c2 : ∀ (k : Fin 512) (j : Fin 48), d2 (ix2 k j) = D (ix2 ⟨1024 + k.val, by omega⟩ j) := fun k j => by
    rw [hd2 k j (by omega) (by omega), z j]
  have v0 : ∀ k : Fin 48, u0 (ix2 k n) = U (ix2 k ⟨off + n.val, hn⟩) := fun k => by rw [hu0 k n (by omega) hn, z]
  have v1 : ∀ k : Fin 48, u1 (ix2 k n) = U (ix2 k ⟨off + n.val, hn⟩) := fun k => by rw [hu1 k n (by omega) hn, z]
  have v2 : ∀ k : Fin 48, u2 (ix2 k n) = U (ix2 k ⟨off + n.val, hn⟩) := fun k => by rw [hu2 k n (by omega) hn, z]
  have a3 : ws (ix2 0 n) = S (ix2 0 ⟨off + n.val, hn⟩) := by
    rw [hs 0 n (by decide) hn]; rfl
  simp only [b0, b1, b2, c0, c1, c2, v0, v1, v2, a3]
  rfl

/-- A one-row tile's element, by its column. -/
theorem row_cases (x : S1x256.Idx) : ∃ n : Fin 256, x = ix2 0 n :=
  ⟨x 1, by funext a; match a with | ⟨0, _⟩ => exact Fin.eq_zero _ | ⟨1, _⟩ => rfl⟩

/-- Where a one-row tile's element lies. -/
theorem emb_row {off : ℕ} (inb : ∀ a, (![0, off] : Fin 2 → ℕ) a + S1x256.size a ≤ S1x5120.size a) (n : Fin 256) (hn : off + n.val < 5120) :
    (Rect.unit (s := S1x5120) ![0, off] S1x256.size inb).emb (ix2 0 n) = ix2 0 ⟨off + n.val, hn⟩ :=
  (emb_ix2 (m := 1) (n := 256) (M := 1) (N := 5120) (r := 0) (c := off) inb 0 n (by decide) hn).trans rfl

/-- A tile of the column norms, as it is stored. -/
theorem norm_piece {off : ℕ} {w0 w1 w2 : Vec Ideal S512x256 .fp8e4m3} {d0 d1 d2 : Vec Ideal S512x48 .bf16} {u0 u1 u2 : Vec Ideal S48x256 .bf16}
    {ws : Vec Ideal S1x256 .f32} {W : Vec Ideal S1536x5120 .fp8e4m3} {S : Vec Ideal S1x5120 .f32} {D : Vec Ideal S1536x48 .bf16} {U : Vec Ideal S48x5120 .bf16}
    (hw0 : Tile 0 off w0 W) (hw1 : Tile 512 off w1 W) (hw2 : Tile 1024 off w2 W)
    (hd0 : Tile 0 0 d0 D) (hd1 : Tile 512 0 d1 D) (hd2 : Tile 1024 0 d2 D)
    (hu0 : Tile 0 off u0 U) (hu1 : Tile 0 off u1 U) (hu2 : Tile 0 off u2 U) (hs : Tile 0 off ws S)
    {p : Vec Ideal S1x256 .f32} (hp : p = k0_pay8 (F := Ideal) (k0_pay4 ws) (k0_pay5 ws d0 u0 w0) (k0_pay6 d1 u1) (k0_pay7 w1) d2 u2 w2)
    (inb : ∀ a, (![0, off] : Fin 2 → ℕ) a + S1x256.size a ≤ S1x5120.size a) (x : S1x256.Idx) :
    p x = normF W S D U ((Rect.unit (s := S1x5120) ![0, off] S1x256.size inb).emb x) := by
  subst hp
  obtain ⟨n, rfl⟩ := row_cases x
  have hb : off + 256 ≤ 5120 := inb 1
  have hn : off + n.val < 5120 := by omega
  rw [norm_tile hw0 hw1 hw2 hd0 hd1 hd2 hu0 hu1 hu2 hs n hn]
  exact congrArg (normF W S D U) (emb_row inb n hn).symm

/-- A tile of the factors, as it is stored. -/
theorem fac_piece {off : ℕ} {w0 w1 w2 : Vec Ideal S512x256 .fp8e4m3} {d0 d1 d2 : Vec Ideal S512x48 .bf16} {u0 u1 u2 : Vec Ideal S48x256 .bf16}
    {ws mg : Vec Ideal S1x256 .f32} {W : Vec Ideal S1536x5120 .fp8e4m3} {S M : Vec Ideal S1x5120 .f32} {D : Vec Ideal S1536x48 .bf16} {U : Vec Ideal S48x5120 .bf16}
    (hw0 : Tile 0 off w0 W) (hw1 : Tile 512 off w1 W) (hw2 : Tile 1024 off w2 W)
    (hd0 : Tile 0 0 d0 D) (hd1 : Tile 512 0 d1 D) (hd2 : Tile 1024 0 d2 D)
    (hu0 : Tile 0 off u0 U) (hu1 : Tile 0 off u1 U) (hu2 : Tile 0 off u2 U) (hs : Tile 0 off ws S) (hm : Tile 0 off mg M)
    {p : Vec Ideal S1x256 .f32} (hp : p = k0_pay9 (F := Ideal) (k0_pay4 ws) (k0_pay5 ws d0 u0 w0) (k0_pay6 d1 u1) (k0_pay7 w1) d2 u2 w2 mg)
    (inb : ∀ a, (![0, off] : Fin 2 → ℕ) a + S1x256.size a ≤ S1x5120.size a) (x : S1x256.Idx) :
    p x = facF M (normF W S D U) ((Rect.unit (s := S1x5120) ![0, off] S1x256.size inb).emb x) := by
  subst hp
  obtain ⟨n, rfl⟩ := row_cases x
  have hb : off + 256 ≤ 5120 := inb 1
  have hn : off + n.val < 5120 := by omega
  rw [factile_apply, norm_tile hw0 hw1 hw2 hd0 hd1 hd2 hu0 hu1 hu2 hs n hn, emb_row inb n hn]
  have a3 : mg (ix2 0 n) = M (ix2 0 ⟨off + n.val, hn⟩) := by
    rw [hm 0 n (by decide) hn]; rfl
  rw [a3]; rfl

/-- A store of a whole buffer. -/
theorem whole_piece {s : Shape} {e : EltTy} {off : Fin s.rank → ℕ} (h0 : ∀ a, off a = 0) (inb : ∀ a, off a + s.size a ≤ s.size a)
    {p G : s.Idx → Elt Ideal e} (h : p = G) (x : s.Idx) : p x = G ((Rect.unit off s.size inb).emb x) := by
  subst h
  refine congrArg p ?_
  funext a; apply Fin.ext
  show (x a).val = off a + 1 * (x a).val
  rw [h0 a]; omega

/-- A store of a whole buffer covers it. -/
theorem whole_cover {s : Shape} {e : EltTy} {off : Fin s.rank → ℕ} (h0 : ∀ a, off a = 0) (inb : ∀ a, off a + s.size a ≤ s.size a)
    (p : s.Idx → Elt Ideal e) (y : s.Idx) : ∃ q ∈ [(⟨Rect.unit off s.size inb, p⟩ : View.Piece (Elt Ideal) s e)], y ∈ q.1.set :=
  ⟨_, List.mem_singleton_self _, by
    show y ∈ (Rect.unit off s.size inb).set
    exact Rect.mem_set_unit.2 fun a => ⟨by rw [h0 a]; exact Nat.zero_le _, by rw [h0 a]; have := (y a).isLt; omega⟩⟩

/-- A load of a whole buffer that holds `X`. -/
theorem load_whole {s : Shape} {e : EltTy} {off : Fin s.rank → ℕ} (v : Memref sig .tc .vmem s e) (hv : v.IsWhole) (h0 : ∀ a, off a = 0)
    (inb : ∀ a, off a + s.size a ≤ s.size a) (X : Vec Ideal s e) :
    View.readAt (Elt Ideal) v.view (Rect.unit off s.size inb).toLoadRect (hv.unread X) = X := by
  funext x
  rw [View.readAt_apply, hv.read_unread]
  refine congrArg X ?_
  funext a; apply Fin.ext
  show off a + 1 * (x a).val = (x a).val
  rw [h0 a]; omega

/-- A load of a whole buffer whose stores all agree with `X`. -/
theorem cov_whole {s : Shape} {e : EltTy} {off : Fin s.rank → ℕ} (v : View sig .tc .vmem s e) (L : List (View.Piece (Elt Ideal) s e))
    (X : Vec Ideal s e) (hL : ∀ p ∈ L, ∀ x : p.1.shape.Idx, p.2 x = X (p.1.emb x)) (hc : ∀ y, ∃ p ∈ L, y ∈ p.1.set)
    (h0 : ∀ a, off a = 0) (inb : ∀ a, off a + s.size a ≤ s.size a) :
    v.readCov L (Rect.unit off s.size inb).toLoadRect = X := by
  funext x
  refine (View.read_writes_apply_of_pieces v _ X L hL _ (hc _)).trans (congrArg X ?_)
  funext a; apply Fin.ext
  show off a + 1 * (x a).val = (x a).val
  rw [h0 a]; omega

/-! ## The codes' block and the row of scales -/

/-- The codes of a batch as they are stored. -/
def codeBlock (x : Vec Ideal S1x512x1536 .bf16) : Vec Ideal S1x512x1536 .fp8e4m3 := k0_pay115 (k0_pay107 x) (recip x)

/-- The table of scales with row `n` replaced by `s`. -/
def setRow (n : ℕ) (s : FVec Ideal S512x1 .f32) (d : Vec Ideal S24x512 .f32) : Vec Ideal S24x512 .f32 :=
  fun y => if (y 0).val = n then s (ix2 (y 1) 0) else d y

/-- The store of a row of scales. -/
theorem row_store (v : Memref sig .tc .vmem S24x512 .f32) (f : v.view.ty.Contents (Elt Ideal)) {d : Vec Ideal S24x512 .f32}
    (hd : View.read (Elt Ideal) v.view f = d) (i : grid0.Coords) (s : FVec Ideal S512x1 .f32) :
    View.read (Elt Ideal) v.view (v.view.writes (Elt Ideal) f
      [⟨Rect.unit (k0_off1 i) S1x512.size (k0_off1_inb i), k0_pay116 s⟩]) = setRow (i 0).val s d := by
  have ho0 : k0_off1 i 0 = (i 0).val := by rw [k0_off1_eq]; rfl
  have ho1 : k0_off1 i 1 = 0 := by rw [k0_off1_eq]; rfl
  funext y
  by_cases hy : (y 0).val = (i 0).val
  · refine View.read_writes_apply_of_pieces v.view f (setRow (i 0).val s d) _ ?_ y ⟨_, List.mem_singleton_self _, ?_⟩
    · refine List.forall_mem_cons.2 ⟨fun x => ?_, fun _ h => absurd h List.not_mem_nil⟩
      change S1x512.Idx at x
      obtain ⟨r, rfl⟩ : ∃ r : Fin 512, x = ix2 0 r :=
        ⟨x 1, by funext a; match a with | ⟨0, _⟩ => exact Fin.eq_zero _ | ⟨1, _⟩ => rfl⟩
      refine (scale_apply s r).trans ?_
      have e0 : ((Rect.unit (s := S24x512) (k0_off1 i) S1x512.size (k0_off1_inb i)).emb (ix2 0 r) 0).val = (i 0).val := by
        show k0_off1 i 0 + 1 * 0 = _; rw [ho0]; omega
      have e1 : (Rect.unit (s := S24x512) (k0_off1 i) S1x512.size (k0_off1_inb i)).emb (ix2 0 r) 1 = r := Fin.ext (by
        show k0_off1 i 1 + 1 * r.val = _; rw [ho1]; omega)
      show _ = setRow (i 0).val s d ((Rect.unit (s := S24x512) (k0_off1 i) S1x512.size (k0_off1_inb i)).emb (ix2 0 r))
      unfold setRow
      rw [if_pos e0, e1]
    · show y ∈ (Rect.unit (s := S24x512) (k0_off1 i) S1x512.size (k0_off1_inb i)).set
      refine Rect.mem_set_unit.2 fun a => ?_
      match a with
      | ⟨0, _⟩ => exact ⟨by show k0_off1 i 0 ≤ (y 0).val; rw [ho0, hy], by show (y 0).val < k0_off1 i 0 + 1; rw [ho0, hy]; omega⟩
      | ⟨1, _⟩ => exact ⟨by show k0_off1 i 1 ≤ (y 1).val; rw [ho1]; exact Nat.zero_le _, by show (y 1).val < k0_off1 i 1 + 512; rw [ho1]; have : (y 1).val < 512 := (y 1).isLt; omega⟩
  · rw [View.read_writes_apply_of_forall_not_mem v.view f y]
    · rw [hd]; unfold setRow; rw [if_neg hy]
    · refine List.forall_mem_cons.2 ⟨fun hm => hy ?_, fun _ h => absurd h List.not_mem_nil⟩
      have := (Rect.mem_set_unit (inb := k0_off1_inb i)).1 hm 0
      change k0_off1 i 0 ≤ (y 0).val ∧ (y 0).val < k0_off1 i 0 + 1 at this
      rw [ho0] at this; omega

end Cert.KernelIdeal.Hand

end
-- ==== Proof.RunA.lean ====
/- The body at the first point: what it stores, named. -/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- The body at the first point: it also computes the column norms and fills the scratch operands with the columns'
    factors, the halved up projection and the transposed down projection. -/
theorem kernelRun0_A (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .vmem S1x5120 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S24x512 .f32) (harg10 : arg10.IsWhole) (arg11 : Memref sig .tc .vmem S1x5120 .f32) (harg11 : arg11.IsWhole) (arg12 : Memref sig .tc .vmem S48x5120 .bf16) (harg12 : arg12.IsWhole) (arg13 : Memref sig .tc .vmem S48x1536 .bf16) (harg13 : arg13.IsWhole) (hc0 : cond0_0 i)
    (x0 : Vec Ideal S1x512x1536 .bf16) (x1 : Vec Ideal S1536x5120 .fp8e4m3) (x2 : Vec Ideal S1x5120 .f32) (x3 : Vec Ideal S1536x48 .bf16) (x4 : Vec Ideal S48x5120 .bf16) (x5 : Vec Ideal S1x5120 .f32) (d9 : Vec Ideal S24x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outF (scale x0) (codes x0) (hid x0 (k0_pay2 x3)) x1 (k0_pay3 x4) x2 (facF x5 (normF x1 x2 x3 (k0_pay3 x4)))) ∗ owns (c : Thread nD τ) arg8 fullShare (normF x1 x2 x3 (k0_pay3 x4)) ∗ owns (c : Thread nD τ) arg9 fullShare (codeBlock x0) ∗ owns (c : Thread nD τ) arg10 fullShare (setRow (i 0).val (scale x0) d9) ∗ owns (c : Thread nD τ) arg11 fullShare (facF x5 (normF x1 x2 x3 (k0_pay3 x4))) ∗ owns (c : Thread nD τ) arg12 fullShare (k0_pay3 x4) ∗ owns (c : Thread nD τ) arg13 fullShare (k0_pay2 x3)) -∗ K ⟨⟩))
          ⊢ wp frame (wpE (defs₀ (F := Ideal)) Variants.none c none) E (cc0_dora_linear_fp8 i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_linear_fp8_eq_skeleton]; unfold cc0_dora_linear_fp8_skel
    simp only [k0_part31_eq_skeleton, k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    have e0 : View.readAt (Elt Ideal) arg1.view (Rect.unit ![0, 0, 0] S1x512x1536.size inb_S1x512x1536_S1x512x1536_0_0_0).toLoadRect (harg1.unread x0) = x0 :=
      load_whole arg1 harg1 (fun a => by fin_cases a <;> rfl) _ x0
    have L1 : ∀ p ∈ kernelRun0_A.sl.HS1_1 c arg5 harg5 x4, ∀ x : p.1.shape.Idx, p.2 x = k0_pay3 (F := Ideal) x4 (p.1.emb x) :=
      List.forall_mem_cons.2 ⟨fun x => whole_piece (s := S48x5120) (off := ![0, 0]) (fun a => by fin_cases a <;> rfl) (by decide)
        (congrArg k0_pay3 (load_whole arg5 harg5 (fun a => by fin_cases a <;> rfl) _ x4)) x, fun _ h => absurd h List.not_mem_nil⟩
    have C1 : ∀ y, ∃ p ∈ kernelRun0_A.sl.HS1_1 c arg5 harg5 x4, y ∈ p.1.set :=
      whole_cover (s := S48x5120) (off := ![0, 0]) (fun a => by fin_cases a <;> rfl) (by decide) _
    have L2 : ∀ p ∈ kernelRun0_A.sl.HS2_1 c arg4 harg4 x3, ∀ x : p.1.shape.Idx, p.2 x = k0_pay2 (F := Ideal) x3 (p.1.emb x) :=
      List.forall_mem_cons.2 ⟨fun x => whole_piece (s := S48x1536) (off := ![0, 0]) (fun a => by fin_cases a <;> rfl) (by decide)
        (congrArg k0_pay2 (load_whole arg4 harg4 (fun a => by fin_cases a <;> rfl) _ x3)) x, fun _ h => absurd h List.not_mem_nil⟩
    have C2 : ∀ y, ∃ p ∈ kernelRun0_A.sl.HS2_1 c arg4 harg4 x3, y ∈ p.1.set :=
      whole_cover (s := S48x1536) (off := ![0, 0]) (fun a => by fin_cases a <;> rfl) (by decide) _
    have L0 : ∀ p ∈ kernelRun0_A.sl.HS0_20 c arg2 harg2 arg3 harg3 arg4 harg4 arg5 harg5 arg6 harg6 arg12 x1 x2 x3 x4 x5,
        ∀ x : p.1.shape.Idx, p.2 x = facF x5 (normF x1 x2 x3 (k0_pay3 x4)) (p.1.emb x) := by
      unfold kernelRun0_A.sl.HS0_20
      repeat refine List.forall_mem_cons.2 ⟨fun x => fac_piece (tile_load arg2 harg2 (by decide) x1) (tile_load arg2 harg2 (by decide) x1) (tile_load arg2 harg2 (by decide) x1)
        (tile_load arg4 harg4 (by decide) x3) (tile_load arg4 harg4 (by decide) x3) (tile_load arg4 harg4 (by decide) x3)
        (tile_cov arg12.view _ _ L1 C1 (by decide)) (tile_cov arg12.view _ _ L1 C1 (by decide)) (tile_cov arg12.view _ _ L1 C1 (by decide))
        (tile_load arg3 harg3 (by decide) x2) (tile_load arg6 harg6 (by decide) x5) rfl (by decide) x, ?_⟩
      exact fun _ h => absurd h List.not_mem_nil
    have C0 : ∀ y, ∃ p ∈ kernelRun0_A.sl.HS0_20 c arg2 harg2 arg3 harg3 arg4 harg4 arg5 harg5 arg6 harg6 arg12 x1 x2 x3 x4 x5, y ∈ p.1.set :=
      View.cover_of_tiled (s := S1x5120) _ S1x256.size rfl
    have q : kernelRun0_A.sl.r_65 c arg1 harg1 x0 = k0_pay107 x0 := congrArg k0_pay107 e0
    have q1 : kernelRun0_A.sl.r_66 c arg1 harg1 x0 = k0_pay108 x0 := congrArg k0_pay108 e0
    have q2 : kernelRun0_A.sl.r_67 c arg1 harg1 x0 = k0_pay109 x0 := congrArg k0_pay109 e0
    have q3 : kernelRun0_A.sl.r_68 c arg1 harg1 x0 = scale x0 := by
      unfold kernelRun0_A.sl.r_68; rw [q1, q2]; rfl
    have q4 : kernelRun0_A.sl.r_69 c arg1 harg1 x0 = recip x0 := by
      unfold kernelRun0_A.sl.r_69; rw [q1, q2]; rfl
    have q5 : kernelRun0_A.sl.r_70 c arg1 harg1 x0 = codes x0 := by
      unfold kernelRun0_A.sl.r_70; rw [q, q4]; rfl
    have q6 : kernelRun0_A.sl.r_71 c arg1 harg1 arg4 harg4 arg13 x0 x3 = hid x0 (k0_pay2 x3) := by
      unfold kernelRun0_A.sl.r_71 kernelRun0_A.sl.v105
      rw [q, cov_whole arg13.view _ _ L2 C2 (fun a => by fin_cases a <;> rfl)]; rfl
    isplitl [H6]
    · iexists _; isplitr; swap; · iexact H6
      ipureintro
      funext y
      refine View.read_writes_apply_of_pieces arg7.view f6 (outF (scale x0) (codes x0) (hid x0 (k0_pay2 x3)) x1 (k0_pay3 x4) x2 (facF x5 (normF x1 x2 x3 (k0_pay3 x4)))) _ ?_ y (View.cover_of_tiled (s := S1x512x5120) _ S1x512x256.size rfl y)
      repeat refine List.forall_mem_cons.2 ⟨fun x => out_piece q3 q5 q6 (tile_load arg2 harg2 (by decide) x1) (tile_cov arg12.view _ _ L1 C1 (by decide)) (tile_load arg3 harg3 (by decide) x2) (tile_cov arg11.view _ _ L0 C0 (by decide)) rfl (by decide) x, ?_⟩
      exact fun _ h => absurd h List.not_mem_nil
    isplitl [H7]
    · iexists _; isplitr; swap; · iexact H7
      ipureintro
      funext y
      refine View.read_writes_apply_of_pieces arg8.view f7 (normF x1 x2 x3 (k0_pay3 x4)) _ ?_ y (View.cover_of_tiled (s := S1x5120) _ S1x256.size rfl y)
      repeat refine List.forall_mem_cons.2 ⟨fun x => norm_piece (tile_load arg2 harg2 (by decide) x1) (tile_load arg2 harg2 (by decide) x1) (tile_load arg2 harg2 (by decide) x1)
        (tile_load arg4 harg4 (by decide) x3) (tile_load arg4 harg4 (by decide) x3) (tile_load arg4 harg4 (by decide) x3)
        (tile_cov arg12.view _ _ L1 C1 (by decide)) (tile_cov arg12.view _ _ L1 C1 (by decide)) (tile_cov arg12.view _ _ L1 C1 (by decide))
        (tile_load arg3 harg3 (by decide) x2) rfl (by decide) x, ?_⟩
      exact fun _ h => absurd h List.not_mem_nil
    isplitl [H8]
    · iexists _; isplitr; swap; · iexact H8
      ipureintro
      funext y
      refine View.read_writes_apply_of_pieces arg9.view f8 (codeBlock x0) _ ?_ y (whole_cover (s := S1x512x1536) (off := ![0, 0, 0]) (fun a => by fin_cases a <;> rfl) (by decide) _ y)
      refine List.forall_mem_cons.2 ⟨fun x => whole_piece (s := S1x512x1536) (off := ![0, 0, 0]) (fun a => by fin_cases a <;> rfl) (by decide) ?_ x, fun _ h => absurd h List.not_mem_nil⟩
      rw [q, q4]; rfl
    isplitl [H9]
    · iexists _; isplitr; swap; · iexact H9
      ipureintro
      rw [q3]
      exact row_store arg10 f9 hf9 i (scale x0)
    isplitl [HS0]
    · iexists _; isplitr; swap; · iexact HS0
      ipureintro; exact funext fun y => View.read_writes_apply_of_pieces arg11.view fs0 _ _ L0 y (C0 y)
    isplitl [HS1]
    · iexists _; isplitr; swap; · iexact HS1
      ipureintro; exact funext fun y => View.read_writes_apply_of_pieces arg12.view fs1 _ _ L1 y (C1 y)
    iexists _; isplitr; swap; · iexact HS2
    ipureintro; exact funext fun y => View.read_writes_apply_of_pieces arg13.view fs2 _ _ L2 y (C2 y)

end Cert.KernelIdeal.Hand

end
-- ==== Proof.RunB.lean ====
/- The body at every point after the first: what it stores, named. -/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- The body at a point that is not the first: it keeps the column norms and the scratch operands as they are, and
    leaves the point's output block, its codes, and its row of scales. -/
theorem kernelRun0_B (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .vmem S1x5120 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S24x512 .f32) (harg10 : arg10.IsWhole) (arg11 : Memref sig .tc .vmem S1x5120 .f32) (harg11 : arg11.IsWhole) (arg12 : Memref sig .tc .vmem S48x5120 .bf16) (harg12 : arg12.IsWhole) (arg13 : Memref sig .tc .vmem S48x1536 .bf16) (harg13 : arg13.IsWhole) (hc0 : ¬cond0_0 i)
    (x0 : Vec Ideal S1x512x1536 .bf16) (x1 : Vec Ideal S1536x5120 .fp8e4m3) (x2 : Vec Ideal S1x5120 .f32) (x3 : Vec Ideal S1536x48 .bf16) (x4 : Vec Ideal S48x5120 .bf16) (x5 : Vec Ideal S1x5120 .f32) (s0 : Vec Ideal S1x5120 .f32) (s1 : Vec Ideal S48x5120 .bf16) (s2 : Vec Ideal S48x1536 .bf16) (d7 : Vec Ideal S1x5120 .f32) (d9 : Vec Ideal S24x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d7 ∗ (∃ d, owns (c : Thread nD τ) arg9 fullShare d) ∗ owns (c : Thread nD τ) arg10 fullShare d9 ∗ owns (c : Thread nD τ) arg11 fullShare s0 ∗ owns (c : Thread nD τ) arg12 fullShare s1 ∗ owns (c : Thread nD τ) arg13 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outF (scale x0) (codes x0) (hid x0 s2) x1 s1 x2 s0) ∗ owns (c : Thread nD τ) arg8 fullShare d7 ∗ owns (c : Thread nD τ) arg9 fullShare (codeBlock x0) ∗ owns (c : Thread nD τ) arg10 fullShare (setRow (i 0).val (scale x0) d9) ∗ owns (c : Thread nD τ) arg11 fullShare s0 ∗ owns (c : Thread nD τ) arg12 fullShare s1 ∗ owns (c : Thread nD τ) arg13 fullShare s2) -∗ K ⟨⟩))
          ⊢ wp frame (wpE (defs₀ (F := Ideal)) Variants.none c none) E (cc0_dora_linear_fp8 i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_linear_fp8_eq_skeleton]; unfold cc0_dora_linear_fp8_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0; obtain rfl := harg12.eq_unread hfs1; obtain rfl := harg13.eq_unread hfs2
    sl_exec (disch := first | sl_exact hc0)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    have e0 : View.readAt (Elt Ideal) arg1.view (Rect.unit ![0, 0, 0] S1x512x1536.size inb_S1x512x1536_S1x512x1536_0_0_0).toLoadRect (harg1.unread x0) = x0 :=
      load_whole arg1 harg1 (fun a => by fin_cases a <;> rfl) _ x0
    have e2 : View.readAt (Elt Ideal) arg13.view (Rect.unit ![0, 0] S48x1536.size inb_S48x1536_S48x1536_0_0).toLoadRect (harg13.unread s2) = s2 :=
      load_whole arg13 harg13 (fun a => by fin_cases a <;> rfl) _ s2
    have q : kernelRun0_B.sl.r c arg1 harg1 x0 = k0_pay107 x0 := congrArg k0_pay107 e0
    have q1 : kernelRun0_B.sl.r_1 c arg1 harg1 x0 = k0_pay108 x0 := congrArg k0_pay108 e0
    have q2 : kernelRun0_B.sl.r_2 c arg1 harg1 x0 = k0_pay109 x0 := congrArg k0_pay109 e0
    have q3 : kernelRun0_B.sl.r_3 c arg1 harg1 x0 = scale x0 := by
      unfold kernelRun0_B.sl.r_3; rw [q1, q2]; rfl
    have q4 : kernelRun0_B.sl.r_4 c arg1 harg1 x0 = recip x0 := by
      unfold kernelRun0_B.sl.r_4; rw [q1, q2]; rfl
    have q5 : kernelRun0_B.sl.r_5 c arg1 harg1 x0 = codes x0 := by
      unfold kernelRun0_B.sl.r_5; rw [q, q4]; rfl
    have q6 : kernelRun0_B.sl.r_6 c arg1 harg1 arg13 harg13 x0 s2 = hid x0 s2 := by
      unfold kernelRun0_B.sl.r_6; rw [q, e2]; rfl
    isplitl [H6]
    · iexists _; isplitr; swap; · iexact H6
      ipureintro
      funext y
      refine View.read_writes_apply_of_pieces arg7.view f6 (outF (scale x0) (codes x0) (hid x0 s2) x1 s1 x2 s0) _ ?_ y (View.cover_of_tiled (s := S1x512x5120) _ S1x512x256.size rfl y)
      repeat refine List.forall_mem_cons.2 ⟨fun x => out_piece q3 q5 q6 (tile_load arg2 harg2 (by decide) x1) (tile_load arg12 harg12 (by decide) s1) (tile_load arg3 harg3 (by decide) x2) (tile_load arg11 harg11 (by decide) s0) rfl (by decide) x, ?_⟩
      exact fun _ h => absurd h List.not_mem_nil
    isplitl [H7]
    · iexists _; isplitr; swap; · iexact H7
      ipureintro; exact hf7
    isplitl [H8]
    · iexists _; isplitr; swap; · iexact H8
      ipureintro
      funext y
      refine View.read_writes_apply_of_pieces arg9.view f8 (codeBlock x0) _ ?_ y (whole_cover (s := S1x512x1536) (off := ![0, 0, 0]) (fun a => by fin_cases a <;> rfl) (by decide) _ y)
      refine List.forall_mem_cons.2 ⟨fun x => whole_piece (s := S1x512x1536) (off := ![0, 0, 0]) (fun a => by fin_cases a <;> rfl) (by decide) ?_ x, fun _ h => absurd h List.not_mem_nil⟩
      rw [q, q4]; rfl
    isplitl [H9]
    · iexists _; isplitr; swap; · iexact H9
      ipureintro
      rw [q3]
      exact row_store arg10 f9 hf9 i (scale x0)
    isplitl [HS0]
    · iexists _; isplitr; swap; · iexact HS0
      ipureintro; exact harg11.read_unread _
    isplitl [HS1]
    · iexists _; isplitr; swap; · iexact HS1
      ipureintro; exact harg12.read_unread _
    iexists _; isplitr; swap; · iexact HS2
    ipureintro; exact harg13.read_unread _

end Cert.KernelIdeal.Hand

end
-- ==== Proof.Data.lean ====
/- The kernel's run with every result named: the proof data, the body's obligation at every grid point, the launch. -/
module

public import proofs.«01_k».proof.Proof.RunA
public import proofs.«01_k».proof.Proof.RunB
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point. -/
def pt0 : Fin cfg0.N := ⟨0, by rw [show cfg0.N = 24 from N_0]; decide⟩

/-- The grid point of batch row `r`. -/
def ptOf (r : Fin 24) : Fin cfg0.N := ⟨r.val, by rw [show cfg0.N = 24 from N_0]; exact r.isLt⟩

/-- The activations' block at a point. -/
def actB (c : Dev nD) (t : Fin cfg0.N) : Vec Ideal S1x512x1536 .bf16 := iblk m c 0 t
/-- The quantised weight, whole. -/
def wB (c : Dev nD) : Vec Ideal S1536x5120 .fp8e4m3 := iblk m c 1 pt0
/-- The weight's column scales. -/
def wsB (c : Dev nD) : Vec Ideal S1x5120 .f32 := iblk m c 2 pt0
/-- The down projection. -/
def dnB (c : Dev nD) : Vec Ideal S1536x48 .bf16 := iblk m c 3 pt0
/-- The up projection. -/
def upB (c : Dev nD) : Vec Ideal S48x5120 .bf16 := iblk m c 4 pt0
/-- The magnitudes. -/
def mgB (c : Dev nD) : Vec Ideal S1x5120 .f32 := iblk m c 5 pt0

/-- Operand 1's block is the same at every point. -/
theorem iblk_1 (c : Dev nD) (t : Fin cfg0.N) : iblk m c 1 t = wB m c := rfl
/-- Operand 2's block is the same at every point. -/
theorem iblk_2 (c : Dev nD) (t : Fin cfg0.N) : iblk m c 2 t = wsB m c := rfl
/-- Operand 3's block is the same at every point. -/
theorem iblk_3 (c : Dev nD) (t : Fin cfg0.N) : iblk m c 3 t = dnB m c := rfl
/-- Operand 4's block is the same at every point. -/
theorem iblk_4 (c : Dev nD) (t : Fin cfg0.N) : iblk m c 4 t = upB m c := rfl
/-- Operand 5's block is the same at every point. -/
theorem iblk_5 (c : Dev nD) (t : Fin cfg0.N) : iblk m c 5 t = mgB m c := rfl

/-- The merged weight's column norms. -/
def normV (c : Dev nD) : Vec Ideal S1x5120 .f32 := normF (wB m c) (wsB m c) (dnB m c) (k0_pay3 (upB m c))
/-- The columns' factors. -/
def facV (c : Dev nD) : Vec Ideal S1x5120 .f32 := facF (mgB m c) (normV m c)
/-- The product's block at a point. -/
def outV (c : Dev nD) (t : Fin cfg0.N) : Vec Ideal S1x512x5120 .bf16 :=
  outF (scale (actB m c t)) (codes (actB m c t)) (hid (actB m c t) (k0_pay2 (dnB m c))) (wB m c) (k0_pay3 (upB m c)) (wsB m c) (facV m c)

/-- The windows whose contents a predicate states. -/
def marked : Fin 10 → Bool := fun w => w.val == 6 || w.val == 7 || w.val == 8 || w.val == 9

/-- What the scratch operands hold after the first point: the columns' factors, the halved up projection, the
    transposed down projection. -/
def carried (c : Dev nD) : sProp 𝕄 :=
  iprop(iprop(owns (c : Thread nD τ) scM0_0 fullShare (facV m c) ∗ owns (c : Thread nD τ) scM0_1 fullShare (k0_pay3 (upB m c)) ∗ owns (c : Thread nD τ) scM0_2 fullShare (k0_pay2 (dnB m c))) ∗ (∃ r, prngReg c r))

/-- The proof data: the arrays at region entry, the inputs left in place, the scratch operands carried. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := if t.val = 0 then Pipeline.ΦA spec0 c else carried m c
  q _ := fullShare
  owed _ := 0

/-- What a point leaves in each result's block: the product, the norms and the codes by name; of the scales' array, kept
    whole over the grid, the rows of the points up to this one. -/
def Rl (c : Dev nD) : (w : Fin cfg0.W) → Fin cfg0.N → ((cfg0.win w).block.Idx → Elt Ideal (cfg0.win w).elt) → Prop := fun w t =>
  match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun X => X = outV m c t
    | ⟨7, _⟩ => fun X => X = normV m c
    | ⟨8, _⟩ => fun X => X = codeBlock (actB m c t)
    | ⟨9, _⟩ => fun X => ∀ (r : Fin 24) (j : Fin 512), r.val ≤ t.val → (X : Vec Ideal S24x512 .f32) (ix2 r j) = scale (actB m c (ptOf r)) (ix2 j 0)

/-- The data held to the predicates. -/
def rdat (c : Dev nD) : Pipeline.RDat τ (Elt Ideal) Unit ℕ (UR sig nD τ) ℕ cfg0 c := (dats m 0 c).toRRel marked (Rl m c)

/-- The proof data's arrays are the region-entry contents. -/
theorem A_eq (c : Dev nD) (w : Fin cfg0.W) : (dats m 0 c).A w = V m c (Pipeline.arrRef spec0 w) := by
  dsimp only [dats]

/-- Operand 0's block is left in place. -/
theorem after0_0 (c : Dev nD) (t : Fin cfg0.N) : (dats m 0 c).after 0 t = iblk m c 0 t := by dsimp only [dats]
/-- Operand 0's block is what the body finds. -/
theorem before0_0 (c : Dev nD) (t : Fin cfg0.N) (d) : (dats m 0 c).before 0 t d = iblk m c 0 t :=
  before0_0_of m (dats m 0 c) (A_eq m c 0) (after0_0 m c) t d
/-- Operand 1's block is left in place. -/
theorem after0_1 (c : Dev nD) (t : Fin cfg0.N) : (dats m 0 c).after 1 t = iblk m c 1 t := by dsimp only [dats]
/-- Operand 1's block is what the body finds. -/
theorem before0_1 (c : Dev nD) (t : Fin cfg0.N) (d) : (dats m 0 c).before 1 t d = iblk m c 1 t :=
  before0_1_of m (dats m 0 c) (A_eq m c 1) (after0_1 m c) t d
/-- Operand 2's block is left in place. -/
theorem after0_2 (c : Dev nD) (t : Fin cfg0.N) : (dats m 0 c).after 2 t = iblk m c 2 t := by dsimp only [dats]
/-- Operand 2's block is what the body finds. -/
theorem before0_2 (c : Dev nD) (t : Fin cfg0.N) (d) : (dats m 0 c).before 2 t d = iblk m c 2 t :=
  before0_2_of m (dats m 0 c) (A_eq m c 2) (after0_2 m c) t d
/-- Operand 3's block is left in place. -/
theorem after0_3 (c : Dev nD) (t : Fin cfg0.N) : (dats m 0 c).after 3 t = iblk m c 3 t := by dsimp only [dats]
/-- Operand 3's block is what the body finds. -/
theorem before0_3 (c : Dev nD) (t : Fin cfg0.N) (d) : (dats m 0 c).before 3 t d = iblk m c 3 t :=
  before0_3_of m (dats m 0 c) (A_eq m c 3) (after0_3 m c) t d
/-- Operand 4's block is left in place. -/
theorem after0_4 (c : Dev nD) (t : Fin cfg0.N) : (dats m 0 c).after 4 t = iblk m c 4 t := by dsimp only [dats]
/-- Operand 4's block is what the body finds. -/
theorem before0_4 (c : Dev nD) (t : Fin cfg0.N) (d) : (dats m 0 c).before 4 t d = iblk m c 4 t :=
  before0_4_of m (dats m 0 c) (A_eq m c 4) (after0_4 m c) t d
/-- Operand 5's block is left in place. -/
theorem after0_5 (c : Dev nD) (t : Fin cfg0.N) : (dats m 0 c).after 5 t = iblk m c 5 t := by dsimp only [dats]
/-- Operand 5's block is what the body finds. -/
theorem before0_5 (c : Dev nD) (t : Fin cfg0.N) (d) : (dats m 0 c).before 5 t d = iblk m c 5 t :=
  before0_5_of m (dats m 0 c) (A_eq m c 5) (after0_5 m c) t d

/-- The invariant before the first point. -/
theorem Phi_zero (c : Dev nD) (t : Fin (cfg0.N + 1)) (h : t.val = 0) : (dats m 0 c).Φ t = Pipeline.ΦA spec0 c := by
  dsimp only [dats]; rw [if_pos h]
/-- The invariant after the first point. -/
theorem Phi_pos (c : Dev nD) (t : Fin (cfg0.N + 1)) (h : t.val ≠ 0) : (dats m 0 c).Φ t = carried m c := by
  dsimp only [dats]; rw [if_neg h]

/-- The grid has one axis: a point's coordinate is its number. -/
theorem coords_val : ∀ t : Fin cfg0.N, (grid0.coords t 0).val = t.val := by decide +kernel

/-- After the first point the norms' window holds the norms. -/
theorem finds_7 (c : Dev nD) (t : Fin cfg0.N) (ht : t.val ≠ 0) (X) (h : (rdat m c).Finds 7 t X) : X = normV m c := by
  have hN : t.val < 24 := lt_of_lt_of_eq t.isLt (show cfg0.N = 24 from N_0)
  rcases (Pipeline.RDat.finds_of_pos (rd := rdat m c) (w := 7) (t := t) rfl ht X).mp h with hf | hl
  · exfalso
    have := (flush0_7 _).mp hf
    simp only at this
    omega
  · exact (dats m 0 c).toRRel_leaves (fgt := marked) (Rl := Rl m c) (w := 7) rfl hl

/-- After the first point the scales' window holds the rows of the points before. -/
theorem finds_9 (c : Dev nD) (t : Fin cfg0.N) (X : Vec Ideal S24x512 .f32) (h : (rdat m c).Finds 9 t X) (r : Fin 24) (j : Fin 512) (hr : r.val < t.val) :
    X (ix2 r j) = scale (actB m c (ptOf r)) (ix2 j 0) := by
  have hN : t.val < 24 := lt_of_lt_of_eq t.isLt (show cfg0.N = 24 from N_0)
  have ht : t.val ≠ 0 := by omega
  rcases (Pipeline.RDat.finds_of_pos (rd := rdat m c) (w := 9) (t := t) rfl ht X).mp h with hf | hl
  · exfalso
    have := (flush0_9 _).mp hf
    simp only at this
    omega
  · have := (dats m 0 c).toRRel_leaves (fgt := marked) (Rl := Rl m c) (w := 9) rfl hl
    exact this r j (by show r.val ≤ t.val - 1; omega)

/-- Writing a point's row extends the rows known by one. -/
theorem rows_succ (c : Dev nD) (t : Fin cfg0.N) (X : Vec Ideal S24x512 .f32)
    (h : ∀ (r : Fin 24) (j : Fin 512), r.val < t.val → X (ix2 r j) = scale (actB m c (ptOf r)) (ix2 j 0)) :
    Rl m c 9 t (setRow (grid0.coords t 0).val (scale (iblk m c 0 t)) X) := by
  intro r j hr
  rw [coords_val]
  unfold setRow
  by_cases e : r.val = t.val
  · rw [if_pos (show ((ix2 r j : S24x512.Idx) 0).val = t.val from e)]
    have : ptOf r = t := Fin.ext e
    rw [this]; rfl
  · rw [if_neg (show ¬ ((ix2 r j : S24x512.Idx) 0).val = t.val from e)]
    exact h r j (by omega)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ Y, ⌜Rl m c 6 t Y⌝ ∗ owns (c : Thread nD τ) (ms0_6 t) fullShare Y)
    ∗ (∃ Y, ⌜Rl m c 7 t Y⌝ ∗ owns (c : Thread nD τ) (ms0_7 t) fullShare Y)
    ∗ (∃ Y, ⌜Rl m c 8 t Y⌝ ∗ owns (c : Thread nD τ) (ms0_8 t) fullShare Y)
    ∗ (∃ Y, ⌜Rl m c 9 t Y⌝ ∗ owns (c : Thread nD τ) (ms0_9 t) fullShare Y))

set_option maxHeartbeats 2400000 in
/-- The body at any point meets its obligation: at the first point it fills the scratch operands and the norms, at every
    later one it reads the former and leaves the latter. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl]
  rw [Phi_pos m c t.succ (by rw [Fin.val_succ]; omega)]
  have hN : t.val < 24 := lt_of_lt_of_eq t.isLt (show cfg0.N = 24 from N_0)
  by_cases h0 : t.val % 24 = 0
  · have hz : t.val = 0 := by omega
    rw [Phi_zero m c t.castSucc hz, PhiA0_eq]
    unfold carried
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩, ⟨%d8, -, H8⟩, ⟨%d9, %h9, H9⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr
      · ipureintro; exact (rfl : outV m c t = outV m c t)
      · iexact H6
    isplitl [H7]
    · iexists _
      isplitr
      · ipureintro; exact (rfl : normV m c = normV m c)
      · iexact H7
    isplitl [H8]
    · iexists _
      isplitr
      · ipureintro; exact (rfl : codeBlock (actB m c t) = codeBlock (actB m c t))
      · iexact H8
    iexists _
    isplitr
    · ipureintro; exact rows_succ m c t d9 (fun r j hr => finds_9 m c t d9 h9 r j hr)
    · iexact H9
  · have hz : t.val ≠ 0 := by omega
    rw [Phi_pos m c t.castSucc hz]
    unfold carried
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, -, H6⟩, ⟨%d7, %h7, H7⟩, ⟨%d8, -, H8⟩, ⟨%d9, %h9, H9⟩⟩
    have e7 : d7 = normV m c := finds_7 m c t hz d7 h7
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (facV m c) (k0_pay3 (upB m c)) (k0_pay2 (dnB m c)) d7 d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _
      isplitr
      · ipureintro; exact (rfl : outV m c t = outV m c t)
      · iexact H6
    isplitl [H7]
    · iexists d7
      isplitr
      · ipureintro; exact e7
      · iexact H7
    isplitl [H8]
    · iexists _
      isplitr
      · ipureintro; exact (rfl : codeBlock (actB m c t) = codeBlock (actB m c t))
      · iexact H8
    iexists _
    isplitr
    · ipureintro; exact rows_succ m c t d9 (fun r j hr => finds_9 m c t d9 h9 r j hr)
    · iexact H9

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point, the results' windows held to their predicates. -/
theorem body_obligation (c : Dev nD) : Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

/-- The class invariant is the data's before the first point. -/
theorem hin (c : Dev nD) : (Pipeline.ΦA spec0 c : sProp 𝕄) ⊢ (rdat m c).Φ 0 := by
  show (Pipeline.ΦA spec0 c : sProp 𝕄) ⊢ (dats m 0 c).Φ 0
  rw [Phi_zero m c 0 rfl]

/-- After the last point the scratch operands are forgotten. -/
theorem hout (c : Dev nD) : (rdat m c).Φ (Fin.last cfg0.N) ⊢ (Pipeline.ΦA spec0 c : sProp 𝕄) := by
  show (dats m 0 c).Φ (Fin.last cfg0.N) ⊢ (Pipeline.ΦA spec0 c : sProp 𝕄)
  rw [Phi_pos m c (Fin.last cfg0.N) (by rw [Fin.val_last, show cfg0.N = 24 from N_0]; decide), PhiA0_eq]
  unfold carried
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: every weakly fair execution ends with the arrays as the data say and every semaphore at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- Every terminal state has the arguments unchanged. -/
theorem unchanged (r : PUnit × MemSt nD τ sig (Elt Ideal)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c)⟩

/-- The frame: the arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => unchanged m r h.1 c, h.2⟩) (run_main_quiescent m ρ)

end Cert.KernelIdeal.Hand

end
-- ==== Proof.Final.lean ====
/- What the kernel's results hold after the run, as functions of the memory it starts from. -/
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The results' arrays -/

/-- The last grid point. -/
def ptLast : Fin cfg0.N := ⟨23, by rw [show cfg0.N = 24 from N_0]; decide⟩

/-- The product's array: each batch's block. -/
def G6 (c : Dev nD) : Vec Ideal S24x512x5120 .bf16 := fun i => outV m c (ptOf (i 0)) (ix3 0 (i 1) (i 2))
/-- The codes' array: each batch's block. -/
def G8 (c : Dev nD) : Vec Ideal S24x512x1536 .fp8e4m3 := fun i => codeBlock (actB m c (ptOf (i 0))) (ix3 0 (i 1) (i 2))
/-- The scales' array: each batch's row. -/
def G9 (c : Dev nD) : Vec Ideal S24x512 .f32 := fun i => scale (actB m c (ptOf (i 0))) (ix2 (i 1) 0)

/-- The product's block at a point is that batch. -/
theorem index_6 : ∀ t : Fin cfg0.N, win0_6.index t = ![t.val, 0, 0] := (by decide +kernel : ∀ t : Fin grid0.N, _)
/-- The codes' block at a point is that batch. -/
theorem index_8 : ∀ t : Fin cfg0.N, win0_8.index t = ![t.val, 0, 0] := (by decide +kernel : ∀ t : Fin grid0.N, _)

/-- The contents a point may leave, restated. -/
theorem leaves (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u))
    (w : Fin cfg0.W) (hw : marked w = true) (u : Fin cfg0.N) (hf : (cfg0.win w).flush u = true) : Rl m c w u (after w u) :=
  (Pipeline.Dat.toRRel_leaves (dats m 0 c) (fgt := marked) (Rl := Rl m c) (w := w) hw) (hL w u hf)

/-- What the results' arrays hold after the run. -/
theorem finals (r : PUnit × MemSt nD τ sig (Elt Ideal)) (h : Pipeline.RDat.FramePost (cfgs 0) (rdat m) (V m) r) (c : Dev nD) :
    r.2.mem ((c.tc : Thread nD τ).loc main_v2_0) = G6 m c
      ∧ r.2.mem ((c.tc : Thread nD τ).loc main_v2_1) = normV m c
      ∧ r.2.mem ((c.tc : Thread nD τ).loc main_v2_2) = G8 m c
      ∧ r.2.mem ((c.tc : Thread nD τ).loc main_v2_3) = G9 m c := by
  obtain ⟨after, hL, hA⟩ := Pipeline.RDat.FramePost.exists_exact h c
  have hl := leaves m c after hL
  refine ⟨(hA 6).trans ?_, (hA 7).trans ?_, (hA 8).trans ?_, (hA 9).trans ?_⟩
  · refine Pipeline.Dat.arrAt_eq_of_covers _ 6 _ (by decide +kernel) fun t hf y => ?_
    have e : after 6 t = outV m c t := hl 6 rfl t hf
    blk_simp
    rw [Pipeline.RDat.withAfter_after, e]
    unfold G6
    have h0 : ptOf ((win0_6.blk t).view.emb y 0) = t := Fin.ext (by
      show (((win0_6.blk t).view.emb y 0 : Fin 24) : ℕ) = t.val
      blk_simp [index_6])
    rw [h0]
    refine congrArg _ ?_
    blk_ext [index_6]
  · refine Pipeline.Dat.arrAt_eq_of_after_last _ 7 ptLast (by decide +kernel) _ fun j => ?_
    have e : after 7 ptLast = normV m c := hl 7 rfl ptLast (by decide +kernel)
    blk_simp
    rw [Pipeline.RDat.withAfter_after, e]
  · refine Pipeline.Dat.arrAt_eq_of_covers _ 8 _ (by decide +kernel) fun t hf y => ?_
    have e : after 8 t = codeBlock (actB m c t) := hl 8 rfl t hf
    blk_simp
    rw [Pipeline.RDat.withAfter_after, e]
    unfold G8
    have h0 : ptOf ((win0_8.blk t).view.emb y 0) = t := Fin.ext (by
      show (((win0_8.blk t).view.emb y 0 : Fin 24) : ℕ) = t.val
      blk_simp [index_8])
    rw [h0]
    refine congrArg _ ?_
    blk_ext [index_8]
  · refine Pipeline.Dat.arrAt_eq_of_after_last _ 9 ptLast (by decide +kernel) _ fun j => ?_
    have e : ∀ (r : Fin 24) (j : Fin 512), r.val ≤ ptLast.val → (after 9 ptLast : Vec Ideal S24x512 .f32) (ix2 r j) = scale (actB m c (ptOf r)) (ix2 j 0) :=
      hl 9 rfl ptLast (by decide +kernel)
    blk_simp
    rw [Pipeline.RDat.withAfter_after]
    have hj : (ix2 (j 0) (j 1) : S24x512.Idx) = j := by funext a; fin_cases a <;> rfl
    exact (congrArg (after 9 ptLast) hj).symm.trans (e (j 0) (j 1) (Nat.le_of_lt_succ (j 0).isLt))

end Cert.KernelIdeal.Hand

end
-- ==== Proof.Search.lean ====
/- Powers of two over the extended reals: a binary search for the exponent field of a quotient, one bit at a time through
   the bit patterns of the powers of two, against the count of the powers of two that do not exceed the quotient. -/
module

public import Idealize.ShloMosaic.Lib.IdealHost
public import Idealize.ShloMosaic.Lib.Pointwise

@[expose] public section

set_option maxRecDepth 16384

noncomputable section

namespace Cert.Search

open Idealize.ShloMosaic

/-! ## Patterns and comparisons -/

/-- The real number a pattern of 32 bits denotes. -/
theorem ofBits_eq (b : BitVec 32) : FloatOps.ofBits (F := Ideal) .f32 b = Ideal.ieee 8 23 b := rfl

/-- A choice by "at least" is a choice by the order. -/
theorem select_oge {α : Type} (v x : EReal) (a b : α) :
    Scalar.select (FloatOps.cmpf (F := Ideal) (φ := .f32) .oge v x) a b = if x ≤ v then a else b := by
  rw [Ideal.cmpf_def]
  by_cases h : x ≤ v <;> simp [Scalar.select, Ideal.cmp, h]

/-- A choice by "less than" is a choice by the order. -/
theorem select_olt {α : Type} (v x : EReal) (a b : α) :
    Scalar.select (FloatOps.cmpf (F := Ideal) (φ := .f32) .olt v x) a b = if v < x then a else b := by
  rw [Ideal.cmpf_def]
  by_cases h : v < x <;> simp [Scalar.select, Ideal.cmp, h]

/-! ## The search -/

/-- One step of the search: the field `b` raised by `s`, kept where the power of two of the raised field is at most `v`. -/
def step (v : EReal) (s b : BitVec 32) : BitVec 32 :=
  Scalar.select (FloatOps.cmpf (F := Ideal) (φ := .f32) .oge v (FloatOps.ofBits (F := Ideal) .f32 (IntOp.shli .vector (IntOp.addi b s) 23#32)))
    (IntOp.addi b s) b

/-- The first four steps. -/
def high (v : EReal) : BitVec 32 := step v 16#32 (step v 32#32 (step v 64#32 (step v 128#32 0#32)))

/-- The last four steps, from the field found so far. -/
def low (v : EReal) (b : BitVec 32) : BitVec 32 := step v 1#32 (step v 2#32 (step v 4#32 (step v 8#32 b)))

/-- The exponent read off a field: zero for the field zero, else the field less 126. -/
def expo (f : BitVec 32) : BitVec 32 := Scalar.select (IntOp.cmpi .eq f 0#32) 0#32 (IntOp.subi f 126#32)

/-- The power of two whose exponent is `e`, by its bit pattern. -/
def pat (e : BitVec 32) : EReal := FloatOps.ofBits (F := Ideal) .f32 (IntOp.shli .vector (IntOp.addi e 127#32) 23#32)

/-! ## Powers of two and their patterns -/

/-- Two to the power `k`. -/
def pw (k : ℤ) : EReal := (((2 : ℝ) ^ k : ℝ) : EReal)

/-- Powers of two grow with the exponent. -/
theorem pw_le {a b : ℤ} (h : a ≤ b) : pw a ≤ pw b :=
  EReal.coe_le_coe_iff.mpr (zpow_le_zpow_right₀ (by norm_num) h)

/-- The sign, the exponent field and the fraction of a shifted word. -/
theorem fields : ∀ k : Fin 256,
    ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- A pattern with no sign, no fraction and an exponent field `k` from 1 to 254 denotes two to the power `k - 127`. -/
theorem ieee_field (b : BitVec 32) (k : ℕ) (h1 : 1 ≤ k) (h2 : k ≤ 254) (hs : (b.extractLsb' (8 + 23) 1 == 1#1) = false)
    (he : (b.extractLsb' 23 8).toNat = k) (hf : (b.extractLsb' 0 23).toNat = 0) : Ideal.ieee 8 23 b = pw ((k : ℤ) - 127) := by
  have h8 : ((2 ^ 23 + 0 : ℕ) : ℝ) = (2 : ℝ) ^ (23 : ℤ) := by norm_num
  unfold Ideal.ieee pw
  rw [hs, he, hf, if_neg (by omega), if_neg (by omega), h8, if_neg (by simp), one_mul, ← zpow_add₀ (by norm_num)]
  congr 2
  push_cast
  ring

/-- The pattern whose exponent field is `k` denotes two to the power `k - 127`. -/
theorem ofBits_field (k : ℕ) (h1 : 1 ≤ k) (h2 : k ≤ 254) :
    FloatOps.ofBits (F := Ideal) .f32 (IntOp.shli .vector (BitVec.ofNat 32 k) 23#32) = pw ((k : ℤ) - 127) := by
  obtain ⟨hs, he, hf⟩ := fields ⟨k, by omega⟩
  exact (ofBits_eq _).trans (ieee_field _ k h1 h2 hs he hf)

/-- The pattern whose exponent field is 255 and whose fraction is zero denotes infinity. -/
theorem ofBits_top : FloatOps.ofBits (F := Ideal) .f32 (IntOp.shli .vector (BitVec.ofNat 32 255) 23#32) = ⊤ := by
  obtain ⟨hs, he, hf⟩ := fields ⟨255, by omega⟩
  dsimp only at hs he hf
  rw [ofBits_eq]
  unfold Ideal.ieee
  simp [hs, he, hf]

/-! ## The count -/

/-- How many of the powers of two with exponents -126 to 127 are at most `v`. -/
def count (v : EReal) : ℕ := (Finset.univ.filter fun k : Fin 254 => pw ((k.val : ℤ) - 126) ≤ v).card

/-- The powers of two that are at most `v` are the first `count v` of them. -/
theorem le_iff (v : EReal) (k : Fin 254) : pw ((k.val : ℤ) - 126) ≤ v ↔ k.val < count v := by
  constructor
  · intro h
    have : (Finset.Iic k).card ≤ count v := Finset.card_le_card fun j hj => by
      simp only [Finset.mem_filter, Finset.mem_univ, true_and]
      have : j.val ≤ k.val := Fin.le_def.mp (Finset.mem_Iic.mp hj)
      exact (pw_le (by omega)).trans h
    rw [Fin.card_Iic] at this
    omega
  · intro h
    by_contra hn
    have : count v ≤ (Finset.Iio k).card := Finset.card_le_card fun j hj => by
      simp only [Finset.mem_filter, Finset.mem_univ, true_and] at hj
      rw [Finset.mem_Iio]
      by_contra hk
      have : k.val ≤ j.val := not_lt.mp hk
      exact hn ((pw_le (by omega)).trans hj)
    rw [Fin.card_Iio] at this
    omega

/-- Below two to the power 126 at most 252 of them are. -/
theorem count_le (v : EReal) (h : v < pw 126) : count v ≤ 252 := by
  by_contra hn
  have := (le_iff v ⟨252, by omega⟩).mpr (by show 252 < _; omega)
  exact absurd this (not_le.mpr (by simpa using h))

/-! ## The search finds the count -/

/-- One step over the count in place of the quotient. -/
def stepN (n : ℕ) (s b : BitVec 32) : BitVec 32 := if (b + s).toNat ≤ n then b + s else b

/-- A step through a field from 1 to 255 compares the raised field with the count. -/
theorem step_eq (v : EReal) (hv : v < ⊤) (hc : count v ≤ 252) (s b : BitVec 32) (h1 : 1 ≤ (b + s).toNat) (h2 : (b + s).toNat ≤ 255) :
    step v s b = stepN (count v) s b := by
  unfold step stepN
  rw [select_oge]
  have e : IntOp.addi b s = BitVec.ofNat 32 (b + s).toNat := by rw [BitVec.ofNat_toNat, BitVec.setWidth_eq]; rfl
  by_cases ht : (b + s).toNat = 255
  · have hq : FloatOps.ofBits (F := Ideal) .f32 (IntOp.shli .vector (IntOp.addi b s) 23#32) = ⊤ := by rw [e, ht]; exact ofBits_top
    rw [hq, if_neg (not_le.mpr hv), if_neg (show ¬ (b + s).toNat ≤ count v by omega)]
  · have hq : FloatOps.ofBits (F := Ideal) .f32 (IntOp.shli .vector (IntOp.addi b s) 23#32) = pw (((b + s).toNat : ℤ) - 127) := by
      rw [e]; exact ofBits_field _ h1 (by omega)
    rw [hq]
    have hk := le_iff v ⟨(b + s).toNat - 1, by omega⟩
    rw [show (((⟨(b + s).toNat - 1, by omega⟩ : Fin 254).val : ℕ) : ℤ) - 126 = ((b + s).toNat : ℤ) - 127 by
      show (((b + s).toNat - 1 : ℕ) : ℤ) - 126 = _; omega] at hk
    by_cases hle : (b + s).toNat ≤ count v
    · rw [if_pos hle, if_pos (hk.mpr (by show _ - 1 < _; omega))]; rfl
    · rw [if_neg hle, if_neg fun h => by have : (b + s).toNat - 1 < _ := hk.mp h; omega]

/-- Over every count: each raised field lies between 1 and 255, and the last field is the count. -/
theorem chain : ∀ n : Fin 253,
    let b1 := stepN n 128#32 0#32
    let b2 := stepN n 64#32 b1
    let b3 := stepN n 32#32 b2
    let b4 := stepN n 16#32 b3
    let b5 := stepN n 8#32 b4
    let b6 := stepN n 4#32 b5
    let b7 := stepN n 2#32 b6
    (1 ≤ (b1 + 64#32).toNat ∧ (b1 + 64#32).toNat ≤ 255) ∧ (1 ≤ (b2 + 32#32).toNat ∧ (b2 + 32#32).toNat ≤ 255)
    ∧ (1 ≤ (b3 + 16#32).toNat ∧ (b3 + 16#32).toNat ≤ 255) ∧ (1 ≤ (b4 + 8#32).toNat ∧ (b4 + 8#32).toNat ≤ 255)
    ∧ (1 ≤ (b5 + 4#32).toNat ∧ (b5 + 4#32).toNat ≤ 255) ∧ (1 ≤ (b6 + 2#32).toNat ∧ (b6 + 2#32).toNat ≤ 255)
    ∧ (1 ≤ (b7 + 1#32).toNat ∧ (b7 + 1#32).toNat ≤ 255) ∧ stepN n 1#32 b7 = BitVec.ofNat 32 n := by
  decide +kernel

/-- The search ends at the count. -/
theorem search_eq (v : EReal) (h : v < pw 126) : low v (high v) = BitVec.ofNat 32 (count v) := by
  have hc := count_le v h
  have hv : v < ⊤ := h.trans_le le_top
  obtain ⟨h2, h3, h4, h5, h6, h7, h8, h9⟩ := chain ⟨count v, by omega⟩
  dsimp only at h2 h3 h4 h5 h6 h7 h8 h9
  unfold low high
  rw [step_eq v hv hc 128#32 0#32 (by decide) (by decide), step_eq v hv hc _ _ h2.1 h2.2, step_eq v hv hc _ _ h3.1 h3.2,
    step_eq v hv hc _ _ h4.1 h4.2, step_eq v hv hc _ _ h5.1 h5.2, step_eq v hv hc _ _ h6.1 h6.2, step_eq v hv hc _ _ h7.1 h7.2,
    step_eq v hv hc _ _ h8.1 h8.2, h9]

/-- The exponent of a quotient: zero where no normal power of two is at most it, else the count less 126. -/
def exponent (v : EReal) : ℤ := if count v = 0 then 0 else (count v : ℤ) - 126

/-- Over every count: the words shifted into the two patterns. -/
theorem words : ∀ n : Fin 253,
    IntOp.addi (expo (BitVec.ofNat 32 n)) 127#32 = BitVec.ofNat 32 (if n.val = 0 then 127 else n.val + 1)
    ∧ IntOp.addi (IntOp.subi 0#32 (expo (BitVec.ofNat 32 n))) 127#32 = BitVec.ofNat 32 (if n.val = 0 then 127 else 253 - n.val) := by
  decide +kernel

/-- The pattern of the exponent found denotes two to that power. -/
theorem pat_expo (v : EReal) (h : v < pw 126) : pat (expo (low v (high v))) = pw (exponent v) := by
  have hc := count_le v h
  unfold pat exponent
  rw [search_eq v h, (words ⟨count v, by omega⟩).1]
  dsimp only
  by_cases h0 : count v = 0
  · rw [if_pos h0, if_pos h0, ofBits_field _ (by omega) (by omega)]; rfl
  · rw [if_neg h0, if_neg h0, ofBits_field _ (by omega) (by omega)]; congr 1; push_cast; ring

/-- The pattern of its negation denotes two to the negated power. -/
theorem pat_neg_expo (v : EReal) (h : v < pw 126) : pat (IntOp.subi 0#32 (expo (low v (high v)))) = pw (-exponent v) := by
  have hc := count_le v h
  unfold pat exponent
  rw [search_eq v h, (words ⟨count v, by omega⟩).2]
  dsimp only
  by_cases h0 : count v = 0
  · rw [if_pos h0, if_pos h0, ofBits_field _ (by omega) (by omega)]; rfl
  · rw [if_neg h0, if_neg h0, ofBits_field _ (by omega) (by omega)]; congr 1; omega

/-! ## The count written as a sum -/

/-- A sum of ones and zeros over the powers of two: one for each that is at most `v`. -/
def tally (v : EReal) : EReal :=
  ∑ k : Fin 254, Scalar.select
    (FloatOps.cmpf (F := Ideal) (φ := .f32) .oge v (FloatOps.exp2 (F := Ideal) (φ := .f32) (FloatOps.sitofp (F := Ideal) .f32 (IntOp.subi (BitVec.ofNat 32 k.val) 126#32))))
    (FloatOps.ofBits (F := Ideal) .f32 0x3F800000#32) (FloatOps.ofBits (F := Ideal) .f32 0x00000000#32)

/-- The exponent from the tally: zero below the least normal power of two, else the tally less 126. -/
def texp (v : EReal) : EReal :=
  Scalar.select (FloatOps.cmpf (F := Ideal) (φ := .f32) .olt v (FloatOps.ofBits (F := Ideal) .f32 0x00800000#32))
    (FloatOps.ofBits (F := Ideal) .f32 0x00000000#32) (tally v - FloatOps.ofBits (F := Ideal) .f32 0x42FC0000#32)

/-- The exponents of the tally, as signed integers. -/
theorem signed : ∀ k : Fin 254, (IntOp.subi (BitVec.ofNat 32 k.val) 126#32).toInt = (k.val : ℤ) - 126 := by
  decide +kernel

/-- Two to an integer power, by the exponential. -/
theorem exp2_int (k : ℤ) : FloatOps.exp2 (F := Ideal) (φ := .f32) (((k : ℝ) : EReal)) = pw k := by
  show Ideal.exp2 _ = _
  unfold pw
  rw [Ideal.exp2_coe]
  congr 1
  exact Real.rpow_intCast 2 k

/-- The tally is the count. -/
theorem tally_eq (v : EReal) : tally v = (((count v : ℤ) : ℝ) : EReal) := by
  have hk : ∀ k : Fin 254, Scalar.select
      (FloatOps.cmpf (F := Ideal) (φ := .f32) .oge v (FloatOps.exp2 (F := Ideal) (φ := .f32) (FloatOps.sitofp (F := Ideal) .f32 (IntOp.subi (BitVec.ofNat 32 k.val) 126#32))))
      (FloatOps.ofBits (F := Ideal) .f32 0x3F800000#32) (FloatOps.ofBits (F := Ideal) .f32 0x00000000#32)
      = if pw ((k.val : ℤ) - 126) ≤ v then (1 : EReal) else 0 := fun k => by
    have e : FloatOps.exp2 (F := Ideal) (φ := .f32) (FloatOps.sitofp (F := Ideal) .f32 (IntOp.subi (BitVec.ofNat 32 k.val) 126#32))
        = pw ((k.val : ℤ) - 126) := by
      rw [← exp2_int, ← signed k]; rfl
    rw [e]
    have one : FloatOps.ofBits (F := Ideal) .f32 0x3F800000#32 = (1 : EReal) := Ideal.ofBits_one_f32
    have zero : FloatOps.ofBits (F := Ideal) .f32 0x00000000#32 = (0 : EReal) := Ideal.ofBits_zero_f32
    rw [one, zero, select_oge]
  unfold tally
  rw [Finset.sum_congr rfl fun k _ => hk k, Finset.sum_boole]
  rfl

/-- The tally's exponent is the search's. -/
theorem texp_eq (v : EReal) : texp v = (((exponent v : ℤ) : ℝ) : EReal) := by
  have hmin : FloatOps.ofBits (F := Ideal) .f32 0x00800000#32 = pw (-126) := by
    have := ofBits_field 1 (by omega) (by omega)
    rw [show IntOp.shli .vector (BitVec.ofNat 32 1) 23#32 = 0x00800000#32 by decide +kernel] at this
    rw [this]; rfl
  have zero : FloatOps.ofBits (F := Ideal) .f32 0x00000000#32 = (0 : EReal) := Ideal.ofBits_zero_f32
  have h126 : FloatOps.ofBits (F := Ideal) .f32 0x42FC0000#32 = (((126 : ℤ) : ℝ) : EReal) := by
    rw [ofBits_eq]
    simp [Ideal.ieee, -EReal.coe_mul]; norm_num
  unfold texp exponent
  rw [hmin, zero, h126, tally_eq, select_olt]
  have h0 := le_iff v ⟨0, by omega⟩
  have h0' : pw (-126) ≤ v ↔ 0 < count v := by simpa using h0
  by_cases h : count v = 0
  · have : v < pw (-126) := not_le.mp fun hh => by have := h0'.mp hh; omega
    rw [if_pos this, if_pos h]; simp
  · have : ¬ v < pw (-126) := not_lt.mpr (h0'.mpr (by omega))
    rw [if_neg this, if_neg h, ← EReal.coe_sub]
    push_cast
    rfl

/-- Two to the tally's exponent. -/
theorem exp2_texp (v : EReal) : FloatOps.exp2 (F := Ideal) (φ := .f32) (texp v) = pw (exponent v) := by
  rw [texp_eq, exp2_int]

/-- Two to its negation. -/
theorem exp2_neg_texp (v : EReal) :
    FloatOps.exp2 (F := Ideal) (φ := .f32) (FloatOps.ofBits (F := Ideal) .f32 0x00000000#32 - texp v : EReal) = pw (-exponent v) := by
  have zero : FloatOps.ofBits (F := Ideal) .f32 0x00000000#32 = (0 : EReal) := Ideal.ofBits_zero_f32
  rw [texp_eq, zero, zero_sub, ← EReal.coe_neg, ← Int.cast_neg, exp2_int]

/-- The kernel's scale and the reference's: the pattern of the exponent searched for is two to the exponent counted. -/
theorem scale_eq (v : EReal) (h : v < pw 126) :
    pat (expo (low v (high v))) = FloatOps.exp2 (F := Ideal) (φ := .f32) (texp v) := by
  rw [pat_expo v h, exp2_texp]

/-- The kernel's reciprocal and the reference's. -/
theorem recip_eq (v : EReal) (h : v < pw 126) :
    pat (IntOp.subi 0#32 (expo (low v (high v))))
      = FloatOps.exp2 (F := Ideal) (φ := .f32) (FloatOps.ofBits (F := Ideal) .f32 0x00000000#32 - texp v : EReal) := by
  rw [pat_neg_expo v h, exp2_neg_texp]

end Cert.Search

end
-- ==== Proof.Spec.lean ====
/- The problem's mathematics over the extended reals, row by row: the quantiser, the merged weight's column norms, the
   product. Both programs' results are shown equal to these. -/
module

public import proofs.«01_k».proof.Proof.Search

@[expose] public section

set_option maxRecDepth 16384

noncomputable section

namespace Cert.Spec

open Idealize.ShloMosaic Cert.Search

/-- One half. -/
def half : EReal := Ideal.ofBits .f32 0x3F000000#32

/-- The quotient whose power of two becomes a row's scale: the row's largest magnitude over the format's largest number. -/
def amp (x : Fin 1536 → EReal) : EReal :=
  Finset.fold max (Ideal.ofBits .f32 0xFF800000#32) (fun k => max (x k) (-(x k))) Finset.univ * Ideal.ofBits .f32 0x3B124925#32

/-- A row's scale. -/
def scl (x : Fin 1536 → EReal) : EReal := FloatOps.exp2 (F := Ideal) (φ := .f32) (texp (amp x))

/-- A row's factor: the scale's reciprocal. -/
def inv (x : Fin 1536 → EReal) : EReal :=
  FloatOps.exp2 (F := Ideal) (φ := .f32) (FloatOps.ofBits (F := Ideal) .f32 0x00000000#32 - texp (amp x) : EReal)

/-- A row's codes: each element times the factor, clipped to the format's range. -/
def code (x : Fin 1536 → EReal) (k : Fin 1536) : EReal :=
  min (Ideal.ofBits .f32 0x43E00000#32) (max (Ideal.ofBits .f32 0xC3E00000#32) (x k * inv x))

/-- The merged weight at row `k`, for one column: the scaled weight plus half the low-rank product. -/
def mrg (w : Fin 1536 → EReal) (s : EReal) (d : Fin 1536 → Fin 48 → EReal) (u : Fin 48 → EReal) (k : Fin 1536) : EReal :=
  w k * s + half * ∑ j : Fin 48, d k j * u j

/-- The norm of one column of the merged weight. -/
def nrm (w : Fin 1536 → EReal) (s : EReal) (d : Fin 1536 → Fin 48 → EReal) (u : Fin 48 → EReal) : EReal :=
  Ideal.sqrt (∑ k : Fin 1536, mrg w s d u k * mrg w s d u k)

/-- A column's factor: its magnitude over its norm, the norm replaced by one where it is zero. -/
def fac (mg cn : EReal) : EReal :=
  Ideal.div mg (Scalar.select (FloatOps.cmpf (F := Ideal) (φ := .f32) .oeq cn 0) (Ideal.ofBits .f32 0x3F800000#32) cn)

/-- The product at one row and one column. -/
def out (x : Fin 1536 → EReal) (w : Fin 1536 → EReal) (s : EReal) (d : Fin 1536 → Fin 48 → EReal) (u : Fin 48 → EReal) (mg : EReal) : EReal :=
  ((∑ k : Fin 1536, code x k * w k) * scl x * s + half * ∑ j : Fin 48, (∑ k : Fin 1536, x k * d k j) * u j)
    * fac mg (nrm w s d u)

/-! ## Finite sums of extended reals -/

/-- Half is the real one half. -/
theorem half_eq : half = (((1 : ℝ) / 2 : ℝ) : EReal) := by
  simp [half, Ideal.ofBits, Ideal.ieee, -EReal.coe_mul]; norm_num

/-- Half in sixteen bits is the same number. -/
theorem half_bf16 : Ideal.ofBits .bf16 0x3F00#16 = half := by
  rw [half_eq]
  simp [Ideal.ofBits, Ideal.ieee, -EReal.coe_mul]; norm_num

/-- Half of a finite sum is the sum of the halves. -/
theorem half_sum {ι : Type} (s : Finset ι) (f : ι → EReal) : half * ∑ i ∈ s, f i = ∑ i ∈ s, half * f i := by
  classical
  have h0 : (0 : EReal) ≤ half := by rw [half_eq]; exact EReal.coe_nonneg.mpr (by norm_num)
  have h1 : half ≠ ⊤ := by rw [half_eq]; exact EReal.coe_ne_top _
  induction s using Finset.induction_on with
  | empty => simp
  | insert a s ha ih => rw [Finset.sum_insert ha, Finset.sum_insert ha, EReal.left_distrib_of_nonneg_of_ne_top h0 h1, ih]

/-- A sum of products with one factor of each halved. -/
theorem sum_half {n : ℕ} (a b : Fin n → EReal) : ∑ j, a j * (b j * half) = half * ∑ j, a j * b j := by
  rw [half_sum]
  exact Finset.sum_congr rfl fun j _ => by rw [← mul_assoc, mul_comm]

/-- A sum over 1536 rows is the sum of three sums of 512. -/
theorem sum_three (f : Fin 1536 → EReal) :
    ∑ k : Fin 512, f ⟨0 + k, by omega⟩ + ∑ k : Fin 512, f ⟨512 + k, by omega⟩ + ∑ k : Fin 512, f ⟨1024 + k, by omega⟩ = ∑ k, f k := by
  have h := Fin.sum_univ_add (a := 512 + 512) (b := 512) f
  have h2 := Fin.sum_univ_add (a := 512) (b := 512) (fun i : Fin (512 + 512) => f (Fin.castAdd 512 i))
  rw [h2] at h
  rw [h]
  refine congrArg₂ (· + ·) (congrArg₂ (· + ·) ?_ ?_) ?_ <;> exact Finset.sum_congr rfl fun k _ => congrArg f (Fin.ext (by simp [Nat.add_comm]))

/-! ## The quotient of a finite row is below two to the power 126 -/

/-- A row whose magnitudes are at most `B`, a real number, has its quotient below two to the power 126, if `B` times the
    quotient's factor is. -/
theorem amp_lt (x : Fin 1536 → EReal) (h : ∀ k, max (x k) (-(x k)) < pw 128) : amp x < pw 126 := by
  have hc : Ideal.ofBits .f32 0x3B124925#32 = (((9586981 : ℝ) * (2 : ℝ) ^ (-32 : ℤ) : ℝ) : EReal) := by
    simp [Ideal.ofBits, Ideal.ieee, -EReal.coe_mul]
  have hb : Ideal.ofBits .f32 0xFF800000#32 = ⊥ := by simp [Ideal.ofBits, Ideal.ieee]
  have hm : Finset.fold max (Ideal.ofBits .f32 0xFF800000#32) (fun k => max (x k) (-(x k))) Finset.univ ≤ pw 128 := by
    rw [Finset.fold_max_le]
    exact ⟨by rw [hb]; exact bot_le, fun k _ => (h k).le⟩
  unfold amp
  rw [hc]
  refine (mul_le_mul_of_nonneg_right hm (EReal.coe_nonneg.mpr (by positivity))).trans_lt ?_
  unfold pw
  rw [← EReal.coe_mul, EReal.coe_lt_coe_iff]
  norm_num

end Cert.Spec

end
-- ==== Proof.Arrays.lean ====
/- The problem's four results as functions of its six arguments. -/
module

public import proofs.«01_k».proof.Proof.Spec
public import Idealize.ShloMosaic.Lib.Pointwise

@[expose] public section

noncomputable section

namespace Cert.Spec

open Idealize.ShloMosaic

variable (x : Vec Ideal ⟨3, ![24, 512, 1536]⟩ .bf16) (w : Vec Ideal ⟨2, ![1536, 5120]⟩ .fp8e4m3) (s : Vec Ideal ⟨1, ![5120]⟩ .f32)
  (d : Vec Ideal ⟨2, ![1536, 48]⟩ .bf16) (u : Vec Ideal ⟨2, ![48, 5120]⟩ .bf16) (mg : Vec Ideal ⟨1, ![5120]⟩ .f32)

/-- The product at one row and one column. -/
def yAt (b : Fin 24) (t : Fin 512) (n : Fin 5120) : EReal :=
  out (fun k => x (ix3 b t k)) (fun k => w (ix2 k n)) (s (ix1 n)) (fun k j => d (ix2 k j)) (fun j => u (ix2 j n)) (mg (ix1 n))

/-- The norm of one column. -/
def cnAt (n : Fin 5120) : EReal :=
  nrm (fun k => w (ix2 k n)) (s (ix1 n)) (fun k j => d (ix2 k j)) (fun j => u (ix2 j n))

/-- The product. -/
def Y : Vec Ideal ⟨3, ![24, 512, 5120]⟩ .bf16 := fun i => yAt x w s d u mg (i 0) (i 1) (i 2)
/-- The column norms. -/
def CN : Vec Ideal ⟨2, ![1, 5120]⟩ .f32 := fun i => cnAt w s d u (i 1)
/-- The codes. -/
def XC : Vec Ideal ⟨3, ![24, 512, 1536]⟩ .fp8e4m3 := fun i => code (fun k => x (ix3 (i 0) (i 1) k)) (i 2)
/-- The scales. -/
def XS : Vec Ideal ⟨2, ![24, 512]⟩ .f32 := fun i => scl fun k => x (ix3 (i 0) (i 1) k)

end Cert.Spec

end
-- ==== Proof.KernelSpec.lean ====
/- The kernel's four results are the problem's, where every activation is a finite number. -/
module

public import proofs.«01_k».proof.Proof.Final
public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Search

/-! ## The scale -/

/-- The search and what is made of it, element by element. -/
theorem search_read (v : FVec Ideal S512x1 .f32) (b : IVec S512x1 32) (r : Fin 512) :
    k0_pay111 v b k0_pay110 (ix2 r 0) = expo (low (v (ix2 r 0)) (b (ix2 r 0))) := by
  rfl

/-- The first four steps of the search, element by element. -/
theorem high_read (x : Vec Ideal S1x512x1536 .bf16) (r : Fin 512) :
    k0_pay109 x (ix2 r 0) = high (k0_pay108 x (ix2 r 0)) := by
  rfl

/-- The scale's pattern. -/
theorem pat_read (v : FVec Ideal S512x1 .f32) (b : IVec S512x1 32) (r : Fin 512) :
    k0_pay112 v b k0_pay110 (ix2 r 0) = pat (k0_pay111 v b k0_pay110 (ix2 r 0)) := by
  rfl

/-- The reciprocal's pattern. -/
theorem neg_read (v : FVec Ideal S512x1 .f32) (b : IVec S512x1 32) (r : Fin 512) :
    k0_pay113 v b k0_pay110 (ix2 r 0) = pat (IntOp.subi 0#32 (k0_pay111 v b k0_pay110 (ix2 r 0))) := by
  rfl

/-- The quotient of a row. -/
theorem amp_spec (x : Vec Ideal S1x512x1536 .bf16) (r : Fin 512) :
    k0_pay108 (F := Ideal) x (ix2 r 0) = Spec.amp fun k => x (ix3 0 r k) := by
  have h1 : Ideal.ofBits .bf16 65408#16 = ⊥ := by simp [Ideal.ofBits, Ideal.ieee]
  have h2 : Ideal.ofBits .f32 0xFF800000#32 = ⊥ := by simp [Ideal.ofBits, Ideal.ieee]
  rw [amp_apply]
  unfold Spec.amp
  simp only [Ideal.absf_def, h1, h2]

/-- A batch's rows are finite. -/
def Fin1 (x : Vec Ideal S1x512x1536 .bf16) : Prop := ∀ r k, max (x (ix3 0 r k) : EReal) (-(x (ix3 0 r k))) < pw 128

/-- The scale of a row. -/
theorem scale_spec (x : Vec Ideal S1x512x1536 .bf16) (h : Fin1 x) (r : Fin 512) :
    (scale x (ix2 r 0) : EReal) = Spec.scl fun k => x (ix3 0 r k) := by
  unfold scale Spec.scl
  rw [pat_read, search_read, high_read, amp_spec]
  exact scale_eq _ (Spec.amp_lt _ (h r))

/-- The factor of a row. -/
theorem recip_spec (x : Vec Ideal S1x512x1536 .bf16) (h : Fin1 x) (r : Fin 512) :
    (recip x (ix2 r 0) : EReal) = Spec.inv fun k => x (ix3 0 r k) := by
  unfold recip Spec.inv
  rw [neg_read, search_read, high_read, amp_spec]
  exact recip_eq _ (Spec.amp_lt _ (h r))

/-- The codes of a row. -/
theorem codes_spec (x : Vec Ideal S1x512x1536 .bf16) (h : Fin1 x) (r : Fin 512) (k : Fin 1536) :
    (codes x (ix2 r k) : EReal) = Spec.code (fun k => x (ix3 0 r k)) k := by
  rw [code_apply, recip_spec x h]
  rfl

/-! ## The norms, the product -/

/-- The merged weight. -/
theorem merged_spec (w : Vec Ideal S1536x5120 .fp8e4m3) (ws : Vec Ideal S1x5120 .f32) (d : Vec Ideal S1536x48 .bf16) (u : Vec Ideal S48x5120 .bf16)
    (k : Fin 1536) (n : Fin 5120) :
    merged w ws d (k0_pay3 u) k n = Spec.mrg (fun k => w (ix2 k n)) (ws (ix2 0 n)) (fun k j => d (ix2 k j)) (fun j => u (ix2 j n)) k := by
  unfold merged Spec.mrg
  simp only [up_apply, Spec.half_bf16]
  exact congrArg _ (Spec.sum_half (fun j : Fin 48 => (d (ix2 k j) : EReal)) fun j => u (ix2 j n))

/-- The norm of a column. -/
theorem norm_spec (w : Vec Ideal S1536x5120 .fp8e4m3) (ws : Vec Ideal S1x5120 .f32) (d : Vec Ideal S1536x48 .bf16) (u : Vec Ideal S48x5120 .bf16)
    (n : Fin 5120) :
    (normF w ws d (k0_pay3 u) (ix2 0 n) : EReal) = Spec.nrm (fun k => w (ix2 k n)) (ws (ix2 0 n)) (fun k j => d (ix2 k j)) (fun j => u (ix2 j n)) := by
  show Ideal.sqrt
    (∑ k : Fin 512, merged w ws d (k0_pay3 u) ⟨0 + k, by omega⟩ n * merged w ws d (k0_pay3 u) ⟨0 + k, by omega⟩ n
      + ∑ k : Fin 512, merged w ws d (k0_pay3 u) ⟨512 + k, by omega⟩ n * merged w ws d (k0_pay3 u) ⟨512 + k, by omega⟩ n
      + ∑ k : Fin 512, merged w ws d (k0_pay3 u) ⟨1024 + k, by omega⟩ n * merged w ws d (k0_pay3 u) ⟨1024 + k, by omega⟩ n) = _
  rw [Spec.sum_three fun k => merged w ws d (k0_pay3 u) k n * merged w ws d (k0_pay3 u) k n]
  simp only [merged_spec]
  rfl

/-- The low-rank term. -/
theorem low_spec (x : Vec Ideal S1x512x1536 .bf16) (d : Vec Ideal S1536x48 .bf16) (u : Vec Ideal S48x5120 .bf16) (r : Fin 512) (n : Fin 5120) :
    ∑ j : Fin 48, (hid x (k0_pay2 d) (ix2 r j) * k0_pay3 u (ix2 j n) : EReal)
      = Spec.half * ∑ j : Fin 48, (∑ k : Fin 1536, x (ix3 0 r k) * d (ix2 k j)) * u (ix2 j n) := by
  have hh : ∀ j, (hid x (k0_pay2 d) (ix2 r j) : EReal) = ∑ k : Fin 1536, x (ix3 0 r k) * d (ix2 k j) := fun j => by
    rw [hid_apply]
    refine Finset.sum_congr rfl fun k _ => ?_
    rw [down_apply]
    exact mul_comm _ _
  simp only [hh, up_apply, Spec.half_bf16]
  exact Spec.sum_half (fun j : Fin 48 => (∑ k : Fin 1536, x (ix3 0 r k) * d (ix2 k j) : EReal)) fun j => u (ix2 j n)

/-- The product. -/
theorem out_spec (x : Vec Ideal S1x512x1536 .bf16) (h : Fin1 x) (w : Vec Ideal S1536x5120 .fp8e4m3) (ws mg : Vec Ideal S1x5120 .f32)
    (d : Vec Ideal S1536x48 .bf16) (u : Vec Ideal S48x5120 .bf16) (r : Fin 512) (n : Fin 5120) :
    (outF (scale x) (codes x) (hid x (k0_pay2 d)) w (k0_pay3 u) ws (facF mg (normF w ws d (k0_pay3 u))) (ix3 0 r n) : EReal)
      = Spec.out (fun k => x (ix3 0 r k)) (fun k => w (ix2 k n)) (ws (ix2 0 n)) (fun k j => d (ix2 k j)) (fun j => u (ix2 j n)) (mg (ix2 0 n)) := by
  show ((∑ k : Fin 1536, codes x (ix2 r k) * w (ix2 k n)) * scale x (ix2 r 0) * ws (ix2 0 n)
      + ∑ j : Fin 48, hid x (k0_pay2 d) (ix2 r j) * k0_pay3 u (ix2 j n) : EReal) * facE (mg (ix2 0 n)) (normF w ws d (k0_pay3 u) (ix2 0 n)) = _
  rw [low_spec, norm_spec, scale_spec x h]
  simp only [codes_spec x h]
  rfl

/-! ## The blocks are the arguments -/

variable (m : (ℓ : Loc nD τ sig) → Buf (Elt Ideal) ℓ)

/-- The activations' block at a point is that batch. -/
theorem index_0 : ∀ t : Fin cfg0.N, win0_0.index t = ![t.val, 0, 0] := (by decide +kernel : ∀ t : Fin grid0.N, _)

/-- The quantised weight, whole, at every point. -/
theorem index_1 : ∀ t : Fin cfg0.N, win0_1.index t = ![0, 0] := (by decide +kernel : ∀ t : Fin grid0.N, _)
/-- The weight's column scales, whole, at every point. -/
theorem index_2 : ∀ t : Fin cfg0.N, win0_2.index t = ![0, 0] := (by decide +kernel : ∀ t : Fin grid0.N, _)
/-- The down projection, whole, at every point. -/
theorem index_3 : ∀ t : Fin cfg0.N, win0_3.index t = ![0, 0] := (by decide +kernel : ∀ t : Fin grid0.N, _)
/-- The up projection, whole, at every point. -/
theorem index_4 : ∀ t : Fin cfg0.N, win0_4.index t = ![0, 0] := (by decide +kernel : ∀ t : Fin grid0.N, _)
/-- The magnitudes, whole, at every point. -/
theorem index_5 : ∀ t : Fin cfg0.N, win0_5.index t = ![0, 0] := (by decide +kernel : ∀ t : Fin grid0.N, _)

/-- A batch of activations. -/
theorem act_read (c : Dev nD) (b : Fin 24) (r : Fin 512) (k : Fin 1536) :
    actB m c (ptOf b) (ix3 0 r k) = m ((c.tc : Thread nD τ).loc main_arg0) (ix3 b r k) := by
  have h : (ptOf b).val = b.val := rfl
  unfold actB
  blk_ext [iblk, V, index_0 (ptOf b), h]

/-- The quantised weight. -/
theorem w_read (c : Dev nD) : wB m c = m ((c.tc : Thread nD τ).loc main_arg1) := by
  unfold wB
  blk_ext! [iblk, V, index_1 pt0]

/-- The weight's column scales. -/
theorem ws_read (c : Dev nD) (n : Fin 5120) : wsB m c (ix2 0 n) = m ((c.tc : Thread nD τ).loc main_arg2) (ix1 n) := by
  unfold wsB
  blk_ext! [iblk, V, index_2 pt0]

/-- The down projection. -/
theorem dn_read (c : Dev nD) : dnB m c = m ((c.tc : Thread nD τ).loc main_arg3) := by
  unfold dnB
  blk_ext! [iblk, V, index_3 pt0]

/-- The up projection. -/
theorem up_read (c : Dev nD) : upB m c = m ((c.tc : Thread nD τ).loc main_arg4) := by
  unfold upB
  blk_ext! [iblk, V, index_4 pt0]

/-- The magnitudes. -/
theorem mg_read (c : Dev nD) (n : Fin 5120) : mgB m c (ix2 0 n) = m ((c.tc : Thread nD τ).loc main_arg5) (ix1 n) := by
  unfold mgB
  blk_ext! [iblk, V, index_5 pt0]

/-! ## The results -/

/-- The activations. -/
def argX (m : (ℓ : Loc nD τ sig) → Buf (Elt Ideal) ℓ) (c : Dev nD) : Vec Ideal S24x512x1536 .bf16 := m ((c.tc : Thread nD τ).loc main_arg0)

/-- Every activation is finite. -/
def Finite (m : (ℓ : Loc nD τ sig) → Buf (Elt Ideal) ℓ) (c : Dev nD) : Prop :=
  ∀ i : S24x512x1536.Idx, max (argX m c i : EReal) (-(argX m c i : EReal)) < pw 128

/-- So is a batch of them. -/
theorem Finite.batch {m : (ℓ : Loc nD τ sig) → Buf (Elt Ideal) ℓ} {c : Dev nD} (h : Finite m c) (b : Fin 24) : Fin1 (actB m c (ptOf b)) := fun r k => by
  rw [act_read]
  exact h _

/-- The product is the problem's. -/
theorem G6_spec (c : Dev nD) (h : Finite m c) :
    G6 m c = Spec.Y (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  have e : ∀ (b : Fin 24) (r : Fin 512) (n : Fin 5120), outV m c (ptOf b) (ix3 0 r n)
      = Spec.yAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) b r n := fun b r n => by
    refine (out_spec (actB m c (ptOf b)) (h.batch b) (wB m c) (wsB m c) (mgB m c) (dnB m c) (upB m c) r n).trans ?_
    rw [w_read, dn_read, up_read, ws_read, mg_read]
    simp only [act_read]
    rfl
  exact funext fun i => e (i 0) (i 1) (i 2)

/-- The norms are the problem's. -/
theorem norm_final (c : Dev nD) :
    normV m c = Spec.CN (m ((c.tc : Thread nD τ).loc main_arg1)) (m ((c.tc : Thread nD τ).loc main_arg2))
      (m ((c.tc : Thread nD τ).loc main_arg3)) (m ((c.tc : Thread nD τ).loc main_arg4)) := by
  have e : ∀ n : Fin 5120, normV m c (ix2 0 n)
      = Spec.cnAt (m ((c.tc : Thread nD τ).loc main_arg1)) (m ((c.tc : Thread nD τ).loc main_arg2))
        (m ((c.tc : Thread nD τ).loc main_arg3)) (m ((c.tc : Thread nD τ).loc main_arg4)) n := fun n => by
    refine (norm_spec (wB m c) (wsB m c) (dnB m c) (upB m c) n).trans ?_
    rw [w_read, dn_read, up_read, ws_read]
    rfl
  exact funext fun i => e (i 1)

/-- The codes are the problem's. -/
theorem G8_spec (c : Dev nD) (h : Finite m c) : G8 m c = Spec.XC (m ((c.tc : Thread nD τ).loc main_arg0)) := by
  have e : ∀ (b : Fin 24) (r : Fin 512) (k : Fin 1536), codeBlock (actB m c (ptOf b)) (ix3 0 r k)
      = Spec.code (fun k => argX m c (ix3 b r k)) k := fun b r k => by
    refine (store_apply (k0_pay107 (actB m c (ptOf b))) (recip (actB m c (ptOf b))) r k).trans
      ((codes_spec (actB m c (ptOf b)) (h.batch b) r k).trans ?_)
    simp only [act_read]
    rfl
  exact funext fun i => e (i 0) (i 1) (i 2)

/-- The scales are the problem's. -/
theorem G9_spec (c : Dev nD) (h : Finite m c) : G9 m c = Spec.XS (m ((c.tc : Thread nD τ).loc main_arg0)) := by
  have e : ∀ (b : Fin 24) (r : Fin 512), scale (actB m c (ptOf b)) (ix2 r 0) = Spec.scl fun k => argX m c (ix3 b r k) := fun b r => by
    refine (scale_spec (actB m c (ptOf b)) (h.batch b) r).trans ?_
    simp only [act_read]
    rfl
  exact funext fun i => e (i 0) (i 1)

end Cert.KernelIdeal.Hand

end
-- ==== Proof.Ref.lean ====
/- What the reference computes, element by element: its payloads read at an index. -/
module

public import proofs.«01_k».proof.Proof.Gen.ReferenceIdeal.Frame
public import proofs.«01_k».proof.Proof.Spec
public import Idealize.ShloMosaic.Lib.Pointwise
public import Idealize.ShloMosaic.Lib.Pipeline.Value
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Search Cert.Spec

/-! ## The payloads, read at an index -/

/-- The largest magnitude of a row. -/
theorem max_apply (v : FVec Ideal S12288x1536 .f32) (r : Fin 12288) :
    (shapeCast S12288x1 (multiReduction .maximumf [1] S12288 (absf v) 0xFF800000#32 reduces_S12288x1536_S12288 (.inl rfl) rfl)
        shapeCasts_S12288_S12288x1 (ix2 r 0) : EReal)
      = Finset.fold max (Ideal.ofBits .f32 0xFF800000#32) (fun k => FloatOps.absf (F := Ideal) (φ := .f32) (v (ix2 r k))) Finset.univ := by
  pointwise []

/-- The quotient of a row. -/
theorem amp_apply (x : Vec Ideal S12288x1536 .bf16) (r : Fin 12288) :
    k0_pay7 (F := Ideal) x (ix2 r 0) = amp fun k => x (ix2 r k) := by
  have h : ∀ m : FVec Ideal S12288x1 .f32,
      mulf m (broadcast S12288x1 (Scalar.ofBits (F := Ideal) .f32 0x3B124925#32)) (ix2 r 0) = (m (ix2 r 0) : EReal) * Ideal.ofBits .f32 0x3B124925#32 :=
    fun _ => rfl
  have hx : ∀ k, k0_pay6 (F := Ideal) x (ix2 r k) = x (ix2 r k) := fun k => by pointwise [k0_pay6, k0_pay2]
  unfold k0_pay7 amp
  refine (h _).trans ?_
  rw [max_apply]
  simp only [hx, Ideal.absf_def]

/-- The sum of a row of 254. -/
theorem sum_apply (v : FVec Ideal S12288x254 .f32) (r : Fin 12288) :
    (shapeCast S12288x1 (multiReduction .add [1] S12288 v 0x00000000#32 reduces_S12288x254_S12288 (.inl rfl) rfl) shapeCasts_S12288_S12288x1 (ix2 r 0) : EReal)
      = ∑ k : Fin 254, (v (ix2 r k) : EReal) := by
  pointwise []

/-- The powers of two a quotient is compared with. -/
theorem pow_apply (k : Fin 254) :
    (exp2 (sitofp (F := Ideal) .f32 (subi (iota .tc S1x254 32 [1] iota_S1x254_d1_w32) (broadcast S1x254 126#32))) (ix2 0 k) : EReal)
      = FloatOps.exp2 (F := Ideal) (φ := .f32) (FloatOps.sitofp (F := Ideal) .f32 (IntOp.subi (BitVec.ofNat 32 k.val) 126#32)) := by
  pointwise []

/-- One comparison of the tally. -/
theorem mark_apply (m : FVec Ideal S12288x1 .f32) (e : FVec Ideal S1x254 .f32) (r : Fin 12288) (k : Fin 254) :
    (select (cmpf .oge (broadcastTo S12288x254 m broadcasts_S12288x1_S12288x254) (broadcastTo S12288x254 e broadcasts_S1x254_S12288x254))
        (broadcast S12288x254 (FloatOps.ofBits (F := Ideal) .f32 0x3F800000#32)) (broadcast S12288x254 (FloatOps.ofBits (F := Ideal) .f32 0x00000000#32)) (ix2 r k) : EReal)
      = Scalar.select (FloatOps.cmpf (F := Ideal) (φ := .f32) .oge (m (ix2 r 0)) (e (ix2 0 k)))
          (FloatOps.ofBits (F := Ideal) .f32 0x3F800000#32) (FloatOps.ofBits (F := Ideal) .f32 0x00000000#32) := by
  have hm : broadcastTo S12288x254 m broadcasts_S12288x1_S12288x254 (ix2 r k) = m (ix2 r 0) := by pointwise []
  have he : broadcastTo S12288x254 e broadcasts_S1x254_S12288x254 (ix2 r k) = e (ix2 0 k) := by pointwise []
  rw [← hm, ← he]
  rfl

/-- The tally of a row. -/
theorem tally_apply (x : Vec Ideal S12288x1536 .bf16) (r : Fin 12288) :
    k0_pay8 (F := Ideal) x (ix2 r 0) = tally (amp fun k => x (ix2 r k)) := by
  unfold k0_pay8 tally
  refine (sum_apply _ r).trans (Finset.sum_congr rfl fun k _ => ?_)
  refine (mark_apply _ _ r k).trans ?_
  rw [amp_apply, pow_apply]

/-- The exponent from a quotient and its tally. -/
def expOf (a b : EReal) : EReal :=
  Scalar.select (FloatOps.cmpf (F := Ideal) (φ := .f32) .olt a (FloatOps.ofBits (F := Ideal) .f32 0x00800000#32))
    (FloatOps.ofBits (F := Ideal) .f32 0x00000000#32) (b - FloatOps.ofBits (F := Ideal) .f32 0x42FC0000#32)

/-- The exponent's payload, element by element. -/
theorem expOf_apply (a b : FVec Ideal S12288x1 .f32) (r : Fin 12288) :
    k0_pay9 (F := Ideal) a b (ix2 r 0) = expOf (a (ix2 r 0)) (b (ix2 r 0)) := by
  rfl

/-- The exponent of a quotient. -/
theorem expOf_tally (z : EReal) : expOf z (tally z) = texp z := by
  rfl

/-- The exponent of a row. -/
theorem texp_apply (x : Vec Ideal S12288x1536 .bf16) (r : Fin 12288) :
    k0_pay9 (F := Ideal) (k0_pay7 x) (k0_pay8 x) (ix2 r 0) = texp (amp fun k => x (ix2 r k)) := by
  refine (expOf_apply _ _ r).trans (Eq.trans ?_ (expOf_tally _))
  exact congrArg₂ expOf (amp_apply x r) (tally_apply x r)

/-- The scale's payload, element by element. -/
theorem scl_read (a b : FVec Ideal S12288x1 .f32) (r : Fin 12288) :
    k0_pay10 (F := Ideal) a b (ix2 r 0) = FloatOps.exp2 (F := Ideal) (φ := .f32) (k0_pay9 (F := Ideal) a b (ix2 r 0)) := by
  rfl

/-- The scale of a row. -/
theorem scl_apply (x : Vec Ideal S12288x1536 .bf16) (r : Fin 12288) :
    k0_pay10 (F := Ideal) (k0_pay7 x) (k0_pay8 x) (ix2 r 0) = scl fun k => x (ix2 r k) := by
  unfold scl
  rw [scl_read, texp_apply]

/-- The codes from a row's exponent. -/
theorem clip_apply (x : Vec Ideal S12288x1536 .bf16) (a b : FVec Ideal S12288x1 .f32) (r : Fin 12288) (k : Fin 1536) :
    (k0_pay11 (F := Ideal) (k0_pay6 x) a b (ix2 r k) : EReal)
      = min (Ideal.ofBits .f32 0x43E00000#32) (max (Ideal.ofBits .f32 0xC3E00000#32)
          (x (ix2 r k) * FloatOps.exp2 (F := Ideal) (φ := .f32) (0 - k0_pay9 (F := Ideal) a b (ix2 r 0) : EReal))) := by
  pointwise [k0_pay11, k0_pay6, k0_pay2]

/-- The codes of a row. -/
theorem code_apply (x : Vec Ideal S12288x1536 .bf16) (r : Fin 12288) (k : Fin 1536) :
    k0_pay11 (F := Ideal) (k0_pay6 x) (k0_pay7 x) (k0_pay8 x) (ix2 r k) = code (fun k => x (ix2 r k)) k := by
  refine (clip_apply x _ _ r k).trans ?_
  rw [texp_apply]
  have hz : (FloatOps.ofBits (F := Ideal) .f32 0x00000000#32 : EReal) = 0 := Ideal.ofBits_zero_f32
  unfold code Spec.inv
  rw [hz]

/-- The norm of a column. -/
theorem nrm_apply (w : Vec Ideal S1536x5120 .fp8e4m3) (d : Vec Ideal S1536x48 .bf16) (u : Vec Ideal S48x5120 .bf16) (s : Vec Ideal S1x5120 .f32) (n : Fin 5120) :
    k0_pay5 (F := Ideal) w d u s (ix2 0 n) = nrm (fun k => w (ix2 k n)) (s (ix2 0 n)) (fun k j => d (ix2 k j)) (fun j => u (ix2 j n)) := by
  pointwise [k0_pay5, k0_pay3]
  rfl

/-! ## The results, split into batches -/

/-- The row of the flattened activations that is row `s` of batch `b`. -/
def row (b : Fin 24) (s : Fin 512) : Fin 12288 := ⟨b.val * 512 + s.val, by omega⟩

/-- A matrix of all the rows, split into batches. -/
theorem split_apply {α : Type} {N : ℕ} (v : (⟨2, ![12288, N]⟩ : Shape).Idx → α) (h : (⟨2, ![12288, N]⟩ : Shape).ShapeCasts ⟨3, ![24, 512, N]⟩)
    (b : Fin 24) (s : Fin 512) (n : Fin N) : shapeCast ⟨3, ![24, 512, N]⟩ v h (ix3 b s n) = v (ix2 (row b s) n) := by
  refine shapeCast_apply _ _ _ _ ?_
  rw [Shape.rowMajor_val_two, Shape.rowMajor_val_three]
  show (b.val * 512 + s.val) * N + n.val = (b.val * 512 + s.val) * N + n.val
  rfl

/-- The product. -/
theorem out_apply (x : Vec Ideal S12288x1536 .bf16) (w : Vec Ideal S1536x5120 .fp8e4m3) (d : Vec Ideal S1536x48 .bf16) (u : Vec Ideal S48x5120 .bf16)
    (s mg : Vec Ideal S1x5120 .f32) (b : Fin 24) (t : Fin 512) (n : Fin 5120) :
    k0_pay12 (F := Ideal) (k0_pay2 x) w d u (k0_pay3 s) (k0_pay4 mg) (k0_pay5 w d u s) (k0_pay6 x) (k0_pay7 x) (k0_pay8 x) (ix3 b t n)
      = out (fun k => x (ix2 (row b t) k)) (fun k => w (ix2 k n)) (s (ix2 0 n)) (fun k j => d (ix2 k j)) (fun j => u (ix2 j n)) (mg (ix2 0 n)) := by
  have e : ∀ z : FVec Ideal S12288x5120 .bf16, shapeCast S24x512x5120 z shapeCasts_S12288x5120_S24x512x5120 (ix3 b t n) = z (ix2 (row b t) n) :=
    fun z => split_apply z _ b t n
  unfold out fac
  simp only [← code_apply, ← scl_apply, ← nrm_apply]
  unfold k0_pay12
  rw [e]
  generalize row b t = r
  pointwise [k0_pay2, k0_pay3, k0_pay4]
  rfl

/-- The codes as they are stored. -/
theorem codes_apply (x : Vec Ideal S12288x1536 .bf16) (b : Fin 24) (t : Fin 512) (k : Fin 1536) :
    k0_pay13 (F := Ideal) (k0_pay6 x) (k0_pay7 x) (k0_pay8 x) (ix3 b t k) = code (fun k => x (ix2 (row b t) k)) k :=
  (split_apply _ _ b t k).trans (code_apply x (row b t) k)

/-- The scales as they are stored. -/
theorem scales_apply (x : Vec Ideal S12288x1536 .bf16) (b : Fin 24) (t : Fin 512) :
    k0_pay1 (F := Ideal) (k0_pay10 (k0_pay7 x) (k0_pay8 x)) (ix2 b t) = scl fun k => x (ix2 (row b t) k) := by
  have e : ∀ z : FVec Ideal S12288x1 .f32, shapeCast S24x512 z shapeCasts_S12288x1_S24x512 (ix2 b t) = z (ix2 (row b t) 0) := fun z => by
    refine shapeCast_apply _ _ _ _ ?_
    rw [Shape.rowMajor_val_two, Shape.rowMajor_val_two]
    show (b.val * 512 + t.val) * 1 + 0 = b.val * 512 + t.val
    omega
  unfold k0_pay1
  rw [e, scl_apply]

end Cert.ReferenceIdeal.Hand

end
-- ==== Proof.RefRun.lean ====
/- The reference's run: its four results are the problem's, its arguments end unchanged. -/
module

public import proofs.«01_k».proof.Proof.Ref
public import proofs.«01_k».proof.Proof.Arrays
public import Idealize.ShloMosaic.Lib.Pipeline.Value
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The one grid point. -/
def pt : Fin cfg0.N := ⟨0, by rw [show cfg0.N = 1 from N_0]; decide⟩

/-! ## The blocks are the arguments -/

/-- The activations, flattened. -/
def xV (c : Dev nD) : Vec Ideal S12288x1536 .bf16 := iblk m c 0 pt
/-- The quantised weight. -/
def wV (c : Dev nD) : Vec Ideal S1536x5120 .fp8e4m3 := iblk m c 1 pt
/-- The weight's column scales. -/
def wsV (c : Dev nD) : Vec Ideal S1x5120 .f32 := iblk m c 2 pt
/-- The down projection. -/
def dnV (c : Dev nD) : Vec Ideal S1536x48 .bf16 := iblk m c 3 pt
/-- The up projection. -/
def upV (c : Dev nD) : Vec Ideal S48x5120 .bf16 := iblk m c 4 pt
/-- The magnitudes. -/
def mgV (c : Dev nD) : Vec Ideal S1x5120 .f32 := iblk m c 5 pt

/-- The flattened activations, whole. -/
theorem index_0 : ∀ t : Fin cfg0.N, win0_0.index t = ![0, 0] := (by decide +kernel : ∀ t : Fin grid0.N, _)
/-- The quantised weight, whole, at every point. -/
theorem index_1 : ∀ t : Fin cfg0.N, win0_1.index t = ![0, 0] := (by decide +kernel : ∀ t : Fin grid0.N, _)
/-- The weight's column scales, whole, at every point. -/
theorem index_2 : ∀ t : Fin cfg0.N, win0_2.index t = ![0, 0] := (by decide +kernel : ∀ t : Fin grid0.N, _)
/-- The down projection, whole, at every point. -/
theorem index_3 : ∀ t : Fin cfg0.N, win0_3.index t = ![0, 0] := (by decide +kernel : ∀ t : Fin grid0.N, _)
/-- The up projection, whole, at every point. -/
theorem index_4 : ∀ t : Fin cfg0.N, win0_4.index t = ![0, 0] := (by decide +kernel : ∀ t : Fin grid0.N, _)
/-- The magnitudes, whole, at every point. -/
theorem index_5 : ∀ t : Fin cfg0.N, win0_5.index t = ![0, 0] := (by decide +kernel : ∀ t : Fin grid0.N, _)

/-- The flattened activations at the program's entry. -/
theorem V_main_v0 (c : Dev nD) :
    V m c main_v0 = shapeCast S12288x1536 (m ((c.tc : Thread nD τ).loc main_arg0)) shapeCasts_S24x512x1536_S12288x1536 := by
  show StableHlo.after hostOps0 _ (Proc.devRef .tc main_v0) = _
  after_results
  rfl

/-- A matrix of batches, flattened. -/
theorem flat_apply {α : Type} (v : (⟨3, ![24, 512, 1536]⟩ : Shape).Idx → α) (h : (⟨3, ![24, 512, 1536]⟩ : Shape).ShapeCasts ⟨2, ![12288, 1536]⟩)
    (b : Fin 24) (s : Fin 512) (n : Fin 1536) : shapeCast ⟨2, ![12288, 1536]⟩ v h (ix2 (row b s) n) = v (ix3 b s n) := by
  refine shapeCast_apply _ _ _ _ ?_
  rw [Shape.rowMajor_val_two, Shape.rowMajor_val_three]
  rfl

/-- The flattened activations are the argument's. -/
theorem x_read (c : Dev nD) (b : Fin 24) (r : Fin 512) (k : Fin 1536) :
    xV m c (ix2 (row b r) k) = m ((c.tc : Thread nD τ).loc main_arg0) (ix3 b r k) := by
  have h : xV m c = V m c main_v0 := by
    unfold xV
    funext y
    blk_ext [iblk, index_0 pt]
  rw [h, V_main_v0]
  exact flat_apply _ _ b r k

/-- The quantised weight. -/
theorem w_read (c : Dev nD) : wV m c = m ((c.tc : Thread nD τ).loc main_arg1) := by
  unfold wV
  blk_ext! [iblk, V, index_1 pt]

/-- The weight's column scales. -/
theorem ws_read (c : Dev nD) (n : Fin 5120) : wsV m c (ix2 0 n) = m ((c.tc : Thread nD τ).loc main_arg2) (ix1 n) := by
  unfold wsV
  blk_ext! [iblk, V, index_2 pt]

/-- The down projection. -/
theorem dn_read (c : Dev nD) : dnV m c = m ((c.tc : Thread nD τ).loc main_arg3) := by
  unfold dnV
  blk_ext! [iblk, V, index_3 pt]

/-- The up projection. -/
theorem up_read (c : Dev nD) : upV m c = m ((c.tc : Thread nD τ).loc main_arg4) := by
  unfold upV
  blk_ext! [iblk, V, index_4 pt]

/-- The magnitudes. -/
theorem mg_read (c : Dev nD) (n : Fin 5120) : mgV m c (ix2 0 n) = m ((c.tc : Thread nD τ).loc main_arg5) (ix1 n) := by
  unfold mgV
  blk_ext! [iblk, V, index_5 pt]

/-! ## What the body leaves -/

section
variable (x0 : Vec Ideal S12288x1536 .bf16) (x1 : Vec Ideal S1536x5120 .fp8e4m3) (x2 : Vec Ideal S1x5120 .f32)
  (x3 : Vec Ideal S1536x48 .bf16) (x4 : Vec Ideal S48x5120 .bf16) (x5 : Vec Ideal S1x5120 .f32)

/-- The product, from the loaded blocks. -/
theorem left6 : out0_6 x0 x1 x2 x3 x4 x5
    = k0_pay12 (k0_pay2 x0) x1 x3 x4 (k0_pay3 x2) (k0_pay4 x5) (k0_pay5 x1 x3 x4 x2) (k0_pay6 x0) (k0_pay7 x0) (k0_pay8 x0) := by
  unfold_out out0_6
  frame_out
/-- The norms, from the loaded blocks. -/
theorem left7 : out0_7 x0 x1 x2 x3 x4 x5 = k0_pay5 x1 x3 x4 x2 := by
  unfold_out out0_7
  frame_out
/-- The codes, from the loaded blocks. -/
theorem left8 : out0_8 x0 x1 x2 x3 x4 x5 = k0_pay13 (k0_pay6 x0) (k0_pay7 x0) (k0_pay8 x0) := by
  unfold_out out0_8
  frame_out
/-- The scales, from the loaded blocks. -/
theorem left9 : out0_9 x0 x1 x2 x3 x4 x5 = k0_pay1 (k0_pay10 (k0_pay7 x0) (k0_pay8 x0)) := by
  unfold_out out0_9
  frame_out
end

/-! ## The results -/

/-- The activations. -/
def argX (c : Dev nD) : Vec Ideal S24x512x1536 .bf16 := m ((c.tc : Thread nD τ).loc main_arg0)

/-- The product's array. -/
theorem arr6 (c : Dev nD) : (dats m 0 c).arrAt 6 cfg0.N
    = Spec.Y (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  have e : ∀ (b : Fin 24) (t : Fin 512) (n : Fin 5120),
      k0_pay12 (F := Ideal) (k0_pay2 (xV m c)) (wV m c) (dnV m c) (upV m c) (k0_pay3 (wsV m c)) (k0_pay4 (mgV m c)) (k0_pay5 (wV m c) (dnV m c) (upV m c) (wsV m c))
        (k0_pay6 (xV m c)) (k0_pay7 (xV m c)) (k0_pay8 (xV m c)) (ix3 b t n)
      = Spec.yAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) b t n := fun b t n => by
    refine (out_apply (xV m c) (wV m c) (dnV m c) (upV m c) (wsV m c) (mgV m c) b t n).trans ?_
    rw [w_read, dn_read, up_read, ws_read, mg_read]
    simp only [x_read]
    rfl
  refine (dats m 0 c).arrAt_eq_of_after_last 6 pt (by decide +kernel) _ fun j => ?_
  blk_simp
  rw [after0_6, left6]
  have hj : j = (ix3 (j 0) (j 1) (j 2) : S24x512x5120.Idx) := by funext a; fin_cases a <;> rfl
  exact (congrArg _ hj).trans (e (j 0) (j 1) (j 2))

/-- The norms' array. -/
theorem arr7 (c : Dev nD) : (dats m 0 c).arrAt 7 cfg0.N
    = Spec.CN (m ((c.tc : Thread nD τ).loc main_arg1)) (m ((c.tc : Thread nD τ).loc main_arg2))
      (m ((c.tc : Thread nD τ).loc main_arg3)) (m ((c.tc : Thread nD τ).loc main_arg4)) := by
  have e : ∀ n : Fin 5120, k0_pay5 (F := Ideal) (wV m c) (dnV m c) (upV m c) (wsV m c) (ix2 0 n)
      = Spec.cnAt (m ((c.tc : Thread nD τ).loc main_arg1)) (m ((c.tc : Thread nD τ).loc main_arg2))
        (m ((c.tc : Thread nD τ).loc main_arg3)) (m ((c.tc : Thread nD τ).loc main_arg4)) n := fun n => by
    refine (nrm_apply (wV m c) (dnV m c) (upV m c) (wsV m c) n).trans ?_
    rw [w_read, dn_read, up_read, ws_read]
    rfl
  refine (dats m 0 c).arrAt_eq_of_after_last 7 pt (by decide +kernel) _ fun j => ?_
  blk_simp
  rw [after0_7, left7]
  have hj : j = (ix2 0 (j 1) : S1x5120.Idx) := by funext a; fin_cases a; exact Subsingleton.elim (α := Fin 1) _ _; rfl
  exact (congrArg _ hj).trans (e (j 1))

/-- The codes' array. -/
theorem arr8 (c : Dev nD) : (dats m 0 c).arrAt 8 cfg0.N = Spec.XC (m ((c.tc : Thread nD τ).loc main_arg0)) := by
  have e : ∀ (b : Fin 24) (t : Fin 512) (k : Fin 1536), k0_pay13 (F := Ideal) (k0_pay6 (xV m c)) (k0_pay7 (xV m c)) (k0_pay8 (xV m c)) (ix3 b t k)
      = Spec.code (fun k => argX m c (ix3 b t k)) k := fun b t k => by
    refine (codes_apply (xV m c) b t k).trans ?_
    simp only [x_read]
    rfl
  refine (dats m 0 c).arrAt_eq_of_after_last 8 pt (by decide +kernel) _ fun j => ?_
  blk_simp
  rw [after0_8, left8]
  have hj : j = (ix3 (j 0) (j 1) (j 2) : S24x512x1536.Idx) := by funext a; fin_cases a <;> rfl
  exact (congrArg _ hj).trans (e (j 0) (j 1) (j 2))

/-- The scales' array. -/
theorem arr9 (c : Dev nD) : (dats m 0 c).arrAt 9 cfg0.N = Spec.XS (m ((c.tc : Thread nD τ).loc main_arg0)) := by
  have e : ∀ (b : Fin 24) (t : Fin 512), k0_pay1 (F := Ideal) (k0_pay10 (k0_pay7 (xV m c)) (k0_pay8 (xV m c))) (ix2 b t)
      = Spec.scl fun k => argX m c (ix3 b t k) := fun b t => by
    refine (scales_apply (xV m c) b t).trans ?_
    simp only [x_read]
    rfl
  refine (dats m 0 c).arrAt_eq_of_after_last 9 pt (by decide +kernel) _ fun j => ?_
  blk_simp
  rw [after0_9, left9]
  have hj : j = (ix2 (j 0) (j 1) : S24x512.Idx) := by funext a; fin_cases a <;> rfl
  exact (congrArg _ hj).trans (e (j 0) (j 1))

/-- The reference's run. -/
theorem run : θ_run defs (onTc (τ := τ) (main (F := Ideal))) ⟨m, fun _ => 0, ρ⟩ (fun r => ∀ c : Dev nD,
    (r.2.mem ((c.tc : Thread nD τ).loc main_v3_0)
        = Spec.Y (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v3_1)
        = Spec.CN (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v3_2) = Spec.XC (m ((c.tc : Thread nD τ).loc main_arg0))
      ∧ r.2.mem ((c.tc : Thread nD τ).loc main_v3_3) = Spec.XS (m ((c.tc : Thread nD τ).loc main_arg0)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono (fun _ h c =>
      ⟨⟨((h c).1 6).trans (arr6 m c), ((h c).1 7).trans (arr7 m c), ((h c).1 8).trans (arr8 m c), ((h c).1 9).trans (arr9 m c)⟩,
        ((h c).2 main_arg0 (Pipeline.mem_restRefs_of main_arg0 (by decide) (by decide))).trans (V_main_arg0 m c),
        ((h c).1 1).trans (((dats m 0 c).arrAt_in 1 rfl _).trans ((A_eq m c 1).trans (V_main_arg1 m c))),
        ((h c).2 main_arg2 (Pipeline.mem_restRefs_of main_arg2 (by decide) (by decide))).trans (V_main_arg2 m c),
        ((h c).1 3).trans (((dats m 0 c).arrAt_in 3 rfl _).trans ((A_eq m c 3).trans (V_main_arg3 m c))),
        ((h c).1 4).trans (((dats m 0 c).arrAt_in 4 rfl _).trans ((A_eq m c 4).trans (V_main_arg4 m c))),
        ((h c).2 main_arg5 (Pipeline.mem_restRefs_of main_arg5 (by decide) (by decide))).trans (V_main_arg5 m c)⟩)
    (run_main m ρ)

end Cert.ReferenceIdeal.Hand

end
-- ==== Proof.Pre.lean ====
/- What the precondition says of the activations: each is a finite number. -/
module

public import proofs.«01_k».proof.Defs
public import proofs.«01_k».proof.Proof.Gen.Pre_pre
public import proofs.«01_k».proof.Proof.Search
public import Idealize.ShloMosaic.Lib.ReduceAll

@[expose] public section

noncomputable section

namespace Cert.Pre_pre.Hand

open Idealize.ShloMosaic Cert.Pre_pre Cert.Search

/-- Sixteen bits' largest number is below two to the power 128. -/
theorem largest : Ideal.ofBits .f32 0x7F7F0000#32 < pw 128 := by
  have h : Ideal.ofBits .f32 0x7F7F0000#32 = (((16711680 : ℝ) * (2 : ℝ) ^ (104 : ℤ) : ℝ) : EReal) := by
    simp [Ideal.ofBits, Ideal.ieee, -EReal.coe_mul]
  rw [h]
  unfold pw
  rw [EReal.coe_lt_coe_iff]
  norm_num

/-- Under the precondition every activation's magnitude is below two to the power 128. -/
theorem finite [Facts] (x : FVec Ideal S24x512x1536 .bf16) (w : FVec Ideal S1536x5120 .fp8e4m3) (s : FVec Ideal S5120 .f32) (d : FVec Ideal S1536x48 .bf16)
    (u : FVec Ideal S48x5120 .bf16) (mg : FVec Ideal S5120 .f32) (h : fn (F := Ideal) x w s d u mg = fun _ => 1#1) (i : S24x512x1536.Idx) :
    max (x i : EReal) (-(x i : EReal)) < pw 128 := by
  haveI : Subsingleton S_.Idx := ⟨fun a b => funext fun k => k.elim0⟩
  dsimp only [fn] at h
  have e := Host.reduce_andi_all _ _ _ _ (fun k => k.elim0) (congrFun h fun k => k.elim0) i
  have e' : FloatOps.cmpf (F := Ideal) (φ := .f32) .ole (FloatOps.absf (F := Ideal) (φ := .f32) (x i)) (Ideal.ofBits .f32 0x7F7F0000#32) = 1#1 := e
  rw [Ideal.cmpf_def, Ideal.absf_def] at e'
  refine lt_of_le_of_lt ?_ largest
  by_contra hn
  simp [Ideal.cmp, hn] at e'

end Cert.Pre_pre.Hand

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.KernelFrame
public import proofs.«01_k».proof.Proof.Data
public import proofs.«01_k».proof.Proof.KernelSpec
public import proofs.«01_k».proof.Proof.RefRun
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Over the extended reals, the kernel's results are the reference's, where every activation is a finite number. -/
theorem algebraic : Cert.algebraic_KernelIdeal_ReferenceIdeal_pre_pre := by
  intro m g m' g' hpre hargs
  have hfin : ∀ c, Cert.KernelIdeal.Hand.Finite m c := fun c i => Cert.Pre_pre.Hand.finite _ _ _ _ _ _ (hpre c) i
  refine ⟨fun c => Cert.KernelIdeal.Hand.G6 m c, fun c => Cert.KernelIdeal.Hand.normV m c, fun c => Cert.KernelIdeal.Hand.G8 m c,
    fun c => Cert.KernelIdeal.Hand.G9 m c, ?_, ?_⟩
  · refine (θ_run _ _ _).mono (fun r h c => ?_) (Cert.KernelIdeal.Hand.run_main_quiescent m g)
    obtain ⟨h6, h7, h8, h9⟩ := Cert.KernelIdeal.Hand.finals m r h.1 c
    exact ⟨h6, h7, h8, h9, Cert.KernelIdeal.Hand.unchanged m r h.1 c⟩
  · refine (θ_run _ _ _).mono (fun r h c => ?_) (Cert.ReferenceIdeal.Hand.run m' g')
    obtain ⟨⟨h6, h7, h8, h9⟩, ha⟩ := h c
    obtain ⟨a0, a1, a2, a3, a4, a5⟩ := hargs c
    refine ⟨h6.trans ?_, h7.trans ?_, h8.trans ?_, h9.trans ?_, ha⟩
    · rw [a0, a1, a2, a3, a4, a5]; exact (Cert.KernelIdeal.Hand.G6_spec m c (hfin c)).symm
    · rw [a1, a2, a3, a4]; exact (Cert.KernelIdeal.Hand.norm_final m c).symm
    · rw [a0]; exact (Cert.KernelIdeal.Hand.G8_spec m c (hfin c)).symm
    · rw [a0]; exact (Cert.KernelIdeal.Hand.G9_spec m c (hfin c)).symm

/-- The certificate's claims. -/
theorem claim : Cert.Claim :=
  ⟨Cert.Kernel.Gen.facts, Cert.KernelIdeal.Gen.facts, Cert.ReferenceIdeal.Gen.facts, Cert.Pre_pre.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial, algebraic⟩

end Cert.Proof

end
